-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x7168 : Shape := ⟨3, ![8, 1, 7168]⟩
abbrev S7168x3840 : Shape := ⟨2, ![7168, 3840]⟩
abbrev S56x30 : Shape := ⟨2, ![56, 30]⟩
abbrev S8x7168 : Shape := ⟨2, ![8, 7168]⟩
abbrev S30x56 : Shape := ⟨2, ![30, 56]⟩
abbrev S8x3840 : Shape := ⟨2, ![8, 3840]⟩
abbrev S8x1x56 : Shape := ⟨3, ![8, 1, 56]⟩
abbrev S1024x3840 : Shape := ⟨2, ![1024, 3840]⟩
abbrev S32x7168 : Shape := ⟨2, ![32, 7168]⟩
abbrev S448x128 : Shape := ⟨2, ![448, 128]⟩
abbrev S7x8x3840 : Shape := ⟨3, ![7, 8, 3840]⟩
abbrev S8x128 : Shape := ⟨2, ![8, 128]⟩
abbrev S32x128 : Shape := ⟨2, ![32, 128]⟩
abbrev S8x252 : Shape := ⟨2, ![8, 252]⟩
abbrev S8 : Shape := ⟨1, ![8]⟩
abbrev S8x1 : Shape := ⟨2, ![8, 1]⟩
abbrev S8x56 : Shape := ⟨2, ![8, 56]⟩
abbrev S56x1 : Shape := ⟨2, ![56, 1]⟩
abbrev S56x128 : Shape := ⟨2, ![56, 128]⟩
abbrev S1x8x128 : Shape := ⟨3, ![1, 8, 128]⟩
abbrev S32x512 : Shape := ⟨2, ![32, 512]⟩
abbrev S512x768 : Shape := ⟨2, ![512, 768]⟩
abbrev S32x768 : Shape := ⟨2, ![32, 768]⟩
abbrev S1x1x128 : Shape := ⟨3, ![1, 1, 128]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x1x7168, .bf16⟩
  | .hbm, ⟨1, _⟩ => ⟨S7168x3840, .fp8e4m3⟩
  | .hbm, ⟨2, _⟩ => ⟨S56x30, .f32⟩
  | .hbm, ⟨3, _⟩ => ⟨S8x7168, .bf16⟩
  | .hbm, ⟨4, _⟩ => ⟨S30x56, .f32⟩
  | .hbm, ⟨5, _⟩ => ⟨S8x3840, .bf16⟩
  | .hbm, ⟨6, _⟩ => ⟨S8x7168, .fp8e4m3⟩
  | .hbm, ⟨7, _⟩ => ⟨S8x1x56, .f32⟩
  | .local _ .vmem, ⟨0, _⟩ => ⟨S8x7168, .bf16⟩
  | .local _ .vmem, ⟨1, _⟩ => ⟨S1024x3840, .fp8e4m3⟩
  | .local _ .vmem, ⟨2, _⟩ => ⟨S1024x3840, .fp8e4m3⟩
  | .local _ .vmem, ⟨3, _⟩ => ⟨S30x56, .f32⟩
  | .local _ .vmem, ⟨4, _⟩ => ⟨S8x3840, .bf16⟩
  | .local _ .vmem, ⟨5, _⟩ => ⟨S8x7168, .fp8e4m3⟩
  | .local _ .vmem, ⟨6, _⟩ => ⟨S8x1x56, .f32⟩
  | .local _ .vmem, ⟨7, _⟩ => ⟨S32x7168, .fp8e4m3⟩
  | .local _ .vmem, ⟨8, _⟩ => ⟨S448x128, .f32⟩
  | .local _ .vmem, ⟨9, _⟩ => ⟨S7x8x3840, .f32⟩
  | .local _ .vmem, ⟨10, _⟩ => ⟨S8x3840, .f32⟩
  | _, _ => ⟨S8x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![7], ![false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  let c0_i32_1 : BitVec 32 := 0#32
  let v4 : BitVec 32 := Scalar.addi v3 c0_i32_1
  v4
def k0_off1 (i : grid0.Coords) (c0_i32_1 : BitVec 32) : Fin 2 → Nat :=
  let c0 : Index := 0#32
  let arg0 : BitVec 32 := BitVec.ofNat 32 (i 0).val
  let c1024_i32 : BitVec 32 := 1024#32
  let v3 : BitVec 32 := Scalar.muli arg0 c1024_i32
  let v4 : BitVec 32 := Scalar.addi v3 c0_i32_1
  let v5 : BitVec 32 := v4
  let v6 : Index := Scalar.indexCast v5
  ![0, v6.toNat]
def k0_mult2 (i : grid0.Coords) : BitVec 32 :=
  let arg0 : BitVec 32 := BitVec.ofNat 32 (i 0).val
  let c8_i32 : BitVec 32 := 8#32
  let v8 : BitVec 32 := Scalar.muli arg0 c8_i32
  let c0_i32_2 : BitVec 32 := 0#32
  let v9 : BitVec 32 := Scalar.addi v8 c0_i32_2
  let c8_i32_3 : BitVec 32 := 8#32
  let v10 : BitVec 32 := Scalar.muli v9 c8_i32_3
  let c0_i32_4 : BitVec 32 := 0#32
  let v11 : BitVec 32 := Scalar.addi v10 c0_i32_4
  v11
def k0_off2 (i : grid0.Coords) (c0_i32_2 : BitVec 32) (c0_i32_4 : BitVec 32) : Fin 2 → Nat :=
  let arg0 : BitVec 32 := BitVec.ofNat 32 (i 0).val
  let c8_i32 : BitVec 32 := 8#32
  let v8 : BitVec 32 := Scalar.muli arg0 c8_i32
  let v9 : BitVec 32 := Scalar.addi v8 c0_i32_2
  let c8_i32_3 : BitVec 32 := 8#32
  let v10 : BitVec 32 := Scalar.muli v9 c8_i32_3
  let v11 : BitVec 32 := Scalar.addi v10 c0_i32_4
  let v12 : BitVec 32 := v11
  let v13 : Index := Scalar.indexCast v12
  let c0_5 : Index := 0#32
  ![v13.toNat, 0]
def k0_mult3 (i : grid0.Coords) : BitVec 32 :=
  let arg0 : BitVec 32 := BitVec.ofNat 32 (i 0).val
  let c8_i32 : BitVec 32 := 8#32
  let v8 : BitVec 32 := Scalar.muli arg0 c8_i32
  let c0_i32_2 : BitVec 32 := 0#32
  let v9 : BitVec 32 := Scalar.addi v8 c0_i32_2
  let c8_i32_3 : BitVec 32 := 8#32
  let v10 : BitVec 32 := Scalar.muli v9 c8_i32_3
  let c8_i32_6 : BitVec 32 := 8#32
  let v15 : BitVec 32 := Scalar.addi v10 c8_i32_6
  v15
def k0_mult4 (i : grid0.Coords) : BitVec 32 :=
  let arg0 : BitVec 32 := BitVec.ofNat 32 (i 0).val
  let c8_i32 : BitVec 32 := 8#32
  let v8 : BitVec 32 := Scalar.muli arg0 c8_i32
  let c0_i32_2 : BitVec 32 := 0#32
  let v9 : BitVec 32 := Scalar.addi v8 c0_i32_2
  let c8_i32_3 : BitVec 32 := 8#32
  let v10 : BitVec 32 := Scalar.muli v9 c8_i32_3
  let c16_i32 : BitVec 32 := 16#32
  let v19 : BitVec 32 := Scalar.addi v10 c16_i32
  v19
def k0_mult5 (i : grid0.Coords) : BitVec 32 :=
  let arg0 : BitVec 32 := BitVec.ofNat 32 (i 0).val
  let c8_i32 : BitVec 32 := 8#32
  let v8 : BitVec 32 := Scalar.muli arg0 c8_i32
  let c0_i32_2 : BitVec 32 := 0#32
  let v9 : BitVec 32 := Scalar.addi v8 c0_i32_2
  let c8_i32_3 : BitVec 32 := 8#32
  let v10 : BitVec 32 := Scalar.muli v9 c8_i32_3
  let c24_i32 : BitVec 32 := 24#32
  let v23 : BitVec 32 := Scalar.addi v10 c24_i32
  v23
def k0_off3 (i : grid0.Coords) : Fin 3 → Nat :=
  let arg0 : BitVec 32 := BitVec.ofNat 32 (i 0).val
  let v30 : Index := Scalar.indexCast arg0
  let c0_14 : Index := 0#32
  let c0_15 : Index := 0#32
  ![v30.toNat, 0, 0]
def k0_off4 (i : grid0.Coords) : Fin 3 → Nat :=
  let arg0 : BitVec 32 := BitVec.ofNat 32 (i 0).val
  let v38 : Index := Scalar.indexCast arg0
  let c1 : Index := 1#32
  let c0_16 : Index := 0#32
  ![v38.toNat, 1, 0]
def k0_off5 (i : grid0.Coords) : Fin 3 → Nat :=
  let arg0 : BitVec 32 := BitVec.ofNat 32 (i 0).val
  let v46 : Index := Scalar.indexCast arg0
  let c2 : Index := 2#32
  let c0_17 : Index := 0#32
  ![v46.toNat, 2, 0]
def k0_off6 (i : grid0.Coords) : Fin 3 → Nat :=
  let arg0 : BitVec 32 := BitVec.ofNat 32 (i 0).val
  let v54 : Index := Scalar.indexCast arg0
  let c3 : Index := 3#32
  let c0_18 : Index := 0#32
  ![v54.toNat, 3, 0]
def k0_off7 (i : grid0.Coords) : Fin 3 → Nat :=
  let arg0 : BitVec 32 := BitVec.ofNat 32 (i 0).val
  let v66 : Index := Scalar.indexCast arg0
  let c0_22 : Index := 0#32
  let c128_23 : Index := 128#32
  ![v66.toNat, 0, 128]
def k0_off8 (i : grid0.Coords) : Fin 3 → Nat :=
  let arg0 : BitVec 32 := BitVec.ofNat 32 (i 0).val
  let v74 : Index := Scalar.indexCast arg0
  let c1_24 : Index := 1#32
  let c128_25 : Index := 128#32
  ![v74.toNat, 1, 128]
def k0_off9 (i : grid0.Coords) : Fin 3 → Nat :=
  let arg0 : BitVec 32 := BitVec.ofNat 32 (i 0).val
  let v82 : Index := Scalar.indexCast arg0
  let c2_26 : Index := 2#32
  let c128_27 : Index := 128#32
  ![v82.toNat, 2, 128]
def k0_off10 (i : grid0.Coords) : Fin 3 → Nat :=
  let arg0 : BitVec 32 := BitVec.ofNat 32 (i 0).val
  let v90 : Index := Scalar.indexCast arg0
  let c3_28 : Index := 3#32
  let c128_29 : Index := 128#32
  ![v90.toNat, 3, 128]
def k0_off11 (i : grid0.Coords) : Fin 3 → Nat :=
  let arg0 : BitVec 32 := BitVec.ofNat 32 (i 0).val
  let v102 : Index := Scalar.indexCast arg0
  let c0_33 : Index := 0#32
  let c256_34 : Index := 256#32
  ![v102.toNat, 0, 256]
def k0_off12 (i : grid0.Coords) : Fin 3 → Nat :=
  let arg0 : BitVec 32 := BitVec.ofNat 32 (i 0).val
  let v110 : Index := Scalar.indexCast arg0
  let c1_35 : Index := 1#32
  let c256_36 : Index := 256#32
  ![v110.toNat, 1, 256]
def k0_off13 (i : grid0.Coords) : Fin 3 → Nat :=
  let arg0 : BitVec 32 := BitVec.ofNat 32 (i 0).val
  let v118 : Index := Scalar.indexCast arg0
  let c2_37 : Index := 2#32
  let c256_38 : Index := 256#32
  ![v118.toNat, 2, 256]
def k0_off14 (i : grid0.Coords) : Fin 3 → Nat :=
  let arg0 : BitVec 32 := BitVec.ofNat 32 (i 0).val
  let v126 : Index := Scalar.indexCast arg0
  let c3_39 : Index := 3#32
  let c256_40 : Index := 256#32
  ![v126.toNat, 3, 256]
def k0_off15 (i : grid0.Coords) : Fin 3 → Nat :=
  let arg0 : BitVec 32 := BitVec.ofNat 32 (i 0).val
  let v138 : Index := Scalar.indexCast arg0
  let c0_44 : Index := 0#32
  let c384_45 : Index := 384#32
  ![v138.toNat, 0, 384]
def k0_off16 (i : grid0.Coords) : Fin 3 → Nat :=
  let arg0 : BitVec 32 := BitVec.ofNat 32 (i 0).val
  let v146 : Index := Scalar.indexCast arg0
  let c1_46 : Index := 1#32
  let c384_47 : Index := 384#32
  ![v146.toNat, 1, 384]
def k0_off17 (i : grid0.Coords) : Fin 3 → Nat :=
  let arg0 : BitVec 32 := BitVec.ofNat 32 (i 0).val
  let v154 : Index := Scalar.indexCast arg0
  let c2_48 : Index := 2#32
  let c384_49 : Index := 384#32
  ![v154.toNat, 2, 384]
def k0_off18 (i : grid0.Coords) : Fin 3 → Nat :=
  let arg0 : BitVec 32 := BitVec.ofNat 32 (i 0).val
  let v162 : Index := Scalar.indexCast arg0
  let c3_50 : Index := 3#32
  let c384_51 : Index := 384#32
  ![v162.toNat, 3, 384]
def k0_off19 (i : grid0.Coords) : Fin 3 → Nat :=
  let arg0 : BitVec 32 := BitVec.ofNat 32 (i 0).val
  let v174 : Index := Scalar.indexCast arg0
  let c0_55 : Index := 0#32
  let c512_56 : Index := 512#32
  ![v174.toNat, 0, 512]
def k0_off20 (i : grid0.Coords) : Fin 3 → Nat :=
  let arg0 : BitVec 32 := BitVec.ofNat 32 (i 0).val
  let v182 : Index := Scalar.indexCast arg0
  let c1_57 : Index := 1#32
  let c512_58 : Index := 512#32
  ![v182.toNat, 1, 512]
def k0_off21 (i : grid0.Coords) : Fin 3 → Nat :=
  let arg0 : BitVec 32 := BitVec.ofNat 32 (i 0).val
  let v190 : Index := Scalar.indexCast arg0
  let c2_59 : Index := 2#32
  let c512_60 : Index := 512#32
  ![v190.toNat, 2, 512]
def k0_off22 (i : grid0.Coords) : Fin 3 → Nat :=
  let arg0 : BitVec 32 := BitVec.ofNat 32 (i 0).val
  let v198 : Index := Scalar.indexCast arg0
  let c3_61 : Index := 3#32
  let c512_62 : Index := 512#32
  ![v198.toNat, 3, 512]
def k0_off23 (i : grid0.Coords) : Fin 3 → Nat :=
  let arg0 : BitVec 32 := BitVec.ofNat 32 (i 0).val
  let v210 : Index := Scalar.indexCast arg0
  let c0_66 : Index := 0#32
  let c640_67 : Index := 640#32
  ![v210.toNat, 0, 640]
def k0_off24 (i : grid0.Coords) : Fin 3 → Nat :=
  let arg0 : BitVec 32 := BitVec.ofNat 32 (i 0).val
  let v218 : Index := Scalar.indexCast arg0
  let c1_68 : Index := 1#32
  let c640_69 : Index := 640#32
  ![v218.toNat, 1, 640]
def k0_off25 (i : grid0.Coords) : Fin 3 → Nat :=
  let arg0 : BitVec 32 := BitVec.ofNat 32 (i 0).val
  let v226 : Index := Scalar.indexCast arg0
  let c2_70 : Index := 2#32
  let c640_71 : Index := 640#32
  ![v226.toNat, 2, 640]
def k0_off26 (i : grid0.Coords) : Fin 3 → Nat :=
  let arg0 : BitVec 32 := BitVec.ofNat 32 (i 0).val
  let v234 : Index := Scalar.indexCast arg0
  let c3_72 : Index := 3#32
  let c640_73 : Index := 640#32
  ![v234.toNat, 3, 640]
def k0_off27 (i : grid0.Coords) : Fin 3 → Nat :=
  let arg0 : BitVec 32 := BitVec.ofNat 32 (i 0).val
  let v248 : Index := Scalar.indexCast arg0
  let c0_80 : Index := 0#32
  let c768_81 : Index := 768#32
  ![v248.toNat, 0, 768]
def k0_off28 (i : grid0.Coords) : Fin 3 → Nat :=
  let arg0 : BitVec 32 := BitVec.ofNat 32 (i 0).val
  let v256 : Index := Scalar.indexCast arg0
  let c1_82 : Index := 1#32
  let c768_83 : Index := 768#32
  ![v256.toNat, 1, 768]
def k0_off29 (i : grid0.Coords) : Fin 3 → Nat :=
  let arg0 : BitVec 32 := BitVec.ofNat 32 (i 0).val
  let v264 : Index := Scalar.indexCast arg0
  let c2_84 : Index := 2#32
  let c768_85 : Index := 768#32
  ![v264.toNat, 2, 768]
def k0_off30 (i : grid0.Coords) : Fin 3 → Nat :=
  let arg0 : BitVec 32 := BitVec.ofNat 32 (i 0).val
  let v272 : Index := Scalar.indexCast arg0
  let c3_86 : Index := 3#32
  let c768_87 : Index := 768#32
  ![v272.toNat, 3, 768]
def k0_off31 (i : grid0.Coords) : Fin 3 → Nat :=
  let arg0 : BitVec 32 := BitVec.ofNat 32 (i 0).val
  let v284 : Index := Scalar.indexCast arg0
  let c0_91 : Index := 0#32
  let c896_92 : Index := 896#32
  ![v284.toNat, 0, 896]
def k0_off32 (i : grid0.Coords) : Fin 3 → Nat :=
  let arg0 : BitVec 32 := BitVec.ofNat 32 (i 0).val
  let v292 : Index := Scalar.indexCast arg0
  let c1_93 : Index := 1#32
  let c896_94 : Index := 896#32
  ![v292.toNat, 1, 896]
def k0_off33 (i : grid0.Coords) : Fin 3 → Nat :=
  let arg0 : BitVec 32 := BitVec.ofNat 32 (i 0).val
  let v300 : Index := Scalar.indexCast arg0
  let c2_95 : Index := 2#32
  let c896_96 : Index := 896#32
  ![v300.toNat, 2, 896]
def k0_off34 (i : grid0.Coords) : Fin 3 → Nat :=
  let arg0 : BitVec 32 := BitVec.ofNat 32 (i 0).val
  let v308 : Index := Scalar.indexCast arg0
  let c3_97 : Index := 3#32
  let c896_98 : Index := 896#32
  ![v308.toNat, 3, 896]
def k0_off35 (i : grid0.Coords) : Fin 3 → Nat :=
  let arg0 : BitVec 32 := BitVec.ofNat 32 (i 0).val
  let v320 : Index := Scalar.indexCast arg0
  let c0_102 : Index := 0#32
  let c1024_103 : Index := 1024#32
  ![v320.toNat, 0, 1024]
def k0_off36 (i : grid0.Coords) : Fin 3 → Nat :=
  let arg0 : BitVec 32 := BitVec.ofNat 32 (i 0).val
  let v328 : Index := Scalar.indexCast arg0
  let c1_104 : Index := 1#32
  let c1024_105 : Index := 1024#32
  ![v328.toNat, 1, 1024]
def k0_off37 (i : grid0.Coords) : Fin 3 → Nat :=
  let arg0 : BitVec 32 := BitVec.ofNat 32 (i 0).val
  let v336 : Index := Scalar.indexCast arg0
  let c2_106 : Index := 2#32
  let c1024_107 : Index := 1024#32
  ![v336.toNat, 2, 1024]
def k0_off38 (i : grid0.Coords) : Fin 3 → Nat :=
  let arg0 : BitVec 32 := BitVec.ofNat 32 (i 0).val
  let v344 : Index := Scalar.indexCast arg0
  let c3_108 : Index := 3#32
  let c1024_109 : Index := 1024#32
  ![v344.toNat, 3, 1024]
def k0_off39 (i : grid0.Coords) : Fin 3 → Nat :=
  let arg0 : BitVec 32 := BitVec.ofNat 32 (i 0).val
  let v356 : Index := Scalar.indexCast arg0
  let c0_113 : Index := 0#32
  let c1152_114 : Index := 1152#32
  ![v356.toNat, 0, 1152]
def k0_off40 (i : grid0.Coords) : Fin 3 → Nat :=
  let arg0 : BitVec 32 := BitVec.ofNat 32 (i 0).val
  let v364 : Index := Scalar.indexCast arg0
  let c1_115 : Index := 1#32
  let c1152_116 : Index := 1152#32
  ![v364.toNat, 1, 1152]
def k0_off41 (i : grid0.Coords) : Fin 3 → Nat :=
  let arg0 : BitVec 32 := BitVec.ofNat 32 (i 0).val
  let v372 : Index := Scalar.indexCast arg0
  let c2_117 : Index := 2#32
  let c1152_118 : Index := 1152#32
  ![v372.toNat, 2, 1152]
def k0_off42 (i : grid0.Coords) : Fin 3 → Nat :=
  let arg0 : BitVec 32 := BitVec.ofNat 32 (i 0).val
  let v380 : Index := Scalar.indexCast arg0
  let c3_119 : Index := 3#32
  let c1152_120 : Index := 1152#32
  ![v380.toNat, 3, 1152]
def k0_off43 (i : grid0.Coords) : Fin 3 → Nat :=
  let arg0 : BitVec 32 := BitVec.ofNat 32 (i 0).val
  let v392 : Index := Scalar.indexCast arg0
  let c0_124 : Index := 0#32
  let c1280_125 : Index := 1280#32
  ![v392.toNat, 0, 1280]
def k0_off44 (i : grid0.Coords) : Fin 3 → Nat :=
  let arg0 : BitVec 32 := BitVec.ofNat 32 (i 0).val
  let v400 : Index := Scalar.indexCast arg0
  let c1_126 : Index := 1#32
  let c1280_127 : Index := 1280#32
  ![v400.toNat, 1, 1280]
def k0_off45 (i : grid0.Coords) : Fin 3 → Nat :=
  let arg0 : BitVec 32 := BitVec.ofNat 32 (i 0).val
  let v408 : Index := Scalar.indexCast arg0
  let c2_128 : Index := 2#32
  let c1280_129 : Index := 1280#32
  ![v408.toNat, 2, 1280]
def k0_off46 (i : grid0.Coords) : Fin 3 → Nat :=
  let arg0 : BitVec 32 := BitVec.ofNat 32 (i 0).val
  let v416 : Index := Scalar.indexCast arg0
  let c3_130 : Index := 3#32
  let c1280_131 : Index := 1280#32
  ![v416.toNat, 3, 1280]
def k0_off47 (i : grid0.Coords) : Fin 3 → Nat :=
  let arg0 : BitVec 32 := BitVec.ofNat 32 (i 0).val
  let v428 : Index := Scalar.indexCast arg0
  let c0_135 : Index := 0#32
  let c1408_136 : Index := 1408#32
  ![v428.toNat, 0, 1408]
def k0_off48 (i : grid0.Coords) : Fin 3 → Nat :=
  let arg0 : BitVec 32 := BitVec.ofNat 32 (i 0).val
  let v436 : Index := Scalar.indexCast arg0
  let c1_137 : Index := 1#32
  let c1408_138 : Index := 1408#32
  ![v436.toNat, 1, 1408]
def k0_off49 (i : grid0.Coords) : Fin 3 → Nat :=
  let arg0 : BitVec 32 := BitVec.ofNat 32 (i 0).val
  let v444 : Index := Scalar.indexCast arg0
  let c2_139 : Index := 2#32
  let c1408_140 : Index := 1408#32
  ![v444.toNat, 2, 1408]
def k0_off50 (i : grid0.Coords) : Fin 3 → Nat :=
  let arg0 : BitVec 32 := BitVec.ofNat 32 (i 0).val
  let v452 : Index := Scalar.indexCast arg0
  let c3_141 : Index := 3#32
  let c1408_142 : Index := 1408#32
  ![v452.toNat, 3, 1408]
def k0_off51 (i : grid0.Coords) : Fin 3 → Nat :=
  let arg0 : BitVec 32 := BitVec.ofNat 32 (i 0).val
  let v466 : Index := Scalar.indexCast arg0
  let c0_149 : Index := 0#32
  let c1536_150 : Index := 1536#32
  ![v466.toNat, 0, 1536]
def k0_off52 (i : grid0.Coords) : Fin 3 → Nat :=
  let arg0 : BitVec 32 := BitVec.ofNat 32 (i 0).val
  let v474 : Index := Scalar.indexCast arg0
  let c1_151 : Index := 1#32
  let c1536_152 : Index := 1536#32
  ![v474.toNat, 1, 1536]
def k0_off53 (i : grid0.Coords) : Fin 3 → Nat :=
  let arg0 : BitVec 32 := BitVec.ofNat 32 (i 0).val
  let v482 : Index := Scalar.indexCast arg0
  let c2_153 : Index := 2#32
  let c1536_154 : Index := 1536#32
  ![v482.toNat, 2, 1536]
def k0_off54 (i : grid0.Coords) : Fin 3 → Nat :=
  let arg0 : BitVec 32 := BitVec.ofNat 32 (i 0).val
  let v490 : Index := Scalar.indexCast arg0
  let c3_155 : Index := 3#32
  let c1536_156 : Index := 1536#32
  ![v490.toNat, 3, 1536]
def k0_off55 (i : grid0.Coords) : Fin 3 → Nat :=
  let arg0 : BitVec 32 := BitVec.ofNat 32 (i 0).val
  let v502 : Index := Scalar.indexCast arg0
  let c0_160 : Index := 0#32
  let c1664_161 : Index := 1664#32
  ![v502.toNat, 0, 1664]
def k0_off56 (i : grid0.Coords) : Fin 3 → Nat :=
  let arg0 : BitVec 32 := BitVec.ofNat 32 (i 0).val
  let v510 : Index := Scalar.indexCast arg0
  let c1_162 : Index := 1#32
  let c1664_163 : Index := 1664#32
  ![v510.toNat, 1, 1664]
def k0_off57 (i : grid0.Coords) : Fin 3 → Nat :=
  let arg0 : BitVec 32 := BitVec.ofNat 32 (i 0).val
  let v518 : Index := Scalar.indexCast arg0
  let c2_164 : Index := 2#32
  let c1664_165 : Index := 1664#32
  ![v518.toNat, 2, 1664]
def k0_off58 (i : grid0.Coords) : Fin 3 → Nat :=
  let arg0 : BitVec 32 := BitVec.ofNat 32 (i 0).val
  let v526 : Index := Scalar.indexCast arg0
  let c3_166 : Index := 3#32
  let c1664_167 : Index := 1664#32
  ![v526.toNat, 3, 1664]
def k0_off59 (i : grid0.Coords) : Fin 3 → Nat :=
  let arg0 : BitVec 32 := BitVec.ofNat 32 (i 0).val
  let v538 : Index := Scalar.indexCast arg0
  let c0_171 : Index := 0#32
  let c1792_172 : Index := 1792#32
  ![v538.toNat, 0, 1792]
def k0_off60 (i : grid0.Coords) : Fin 3 → Nat :=
  let arg0 : BitVec 32 := BitVec.ofNat 32 (i 0).val
  let v546 : Index := Scalar.indexCast arg0
  let c1_173 : Index := 1#32
  let c1792_174 : Index := 1792#32
  ![v546.toNat, 1, 1792]
def k0_off61 (i : grid0.Coords) : Fin 3 → Nat :=
  let arg0 : BitVec 32 := BitVec.ofNat 32 (i 0).val
  let v554 : Index := Scalar.indexCast arg0
  let c2_175 : Index := 2#32
  let c1792_176 : Index := 1792#32
  ![v554.toNat, 2, 1792]
def k0_off62 (i : grid0.Coords) : Fin 3 → Nat :=
  let arg0 : BitVec 32 := BitVec.ofNat 32 (i 0).val
  let v562 : Index := Scalar.indexCast arg0
  let c3_177 : Index := 3#32
  let c1792_178 : Index := 1792#32
  ![v562.toNat, 3, 1792]
def k0_off63 (i : grid0.Coords) : Fin 3 → Nat :=
  let arg0 : BitVec 32 := BitVec.ofNat 32 (i 0).val
  let v574 : Index := Scalar.indexCast arg0
  let c0_182 : Index := 0#32
  let c1920_183 : Index := 1920#32
  ![v574.toNat, 0, 1920]
def k0_off64 (i : grid0.Coords) : Fin 3 → Nat :=
  let arg0 : BitVec 32 := BitVec.ofNat 32 (i 0).val
  let v582 : Index := Scalar.indexCast arg0
  let c1_184 : Index := 1#32
  let c1920_185 : Index := 1920#32
  ![v582.toNat, 1, 1920]
def k0_off65 (i : grid0.Coords) : Fin 3 → Nat :=
  let arg0 : BitVec 32 := BitVec.ofNat 32 (i 0).val
  let v590 : Index := Scalar.indexCast arg0
  let c2_186 : Index := 2#32
  let c1920_187 : Index := 1920#32
  ![v590.toNat, 2, 1920]
def k0_off66 (i : grid0.Coords) : Fin 3 → Nat :=
  let arg0 : BitVec 32 := BitVec.ofNat 32 (i 0).val
  let v598 : Index := Scalar.indexCast arg0
  let c3_188 : Index := 3#32
  let c1920_189 : Index := 1920#32
  ![v598.toNat, 3, 1920]
def k0_off67 (i : grid0.Coords) : Fin 3 → Nat :=
  let arg0 : BitVec 32 := BitVec.ofNat 32 (i 0).val
  let v610 : Index := Scalar.indexCast arg0
  let c0_193 : Index := 0#32
  let c2048_194 : Index := 2048#32
  ![v610.toNat, 0, 2048]
def k0_off68 (i : grid0.Coords) : Fin 3 → Nat :=
  let arg0 : BitVec 32 := BitVec.ofNat 32 (i 0).val
  let v618 : Index := Scalar.indexCast arg0
  let c1_195 : Index := 1#32
  let c2048_196 : Index := 2048#32
  ![v618.toNat, 1, 2048]
def k0_off69 (i : grid0.Coords) : Fin 3 → Nat :=
  let arg0 : BitVec 32 := BitVec.ofNat 32 (i 0).val
  let v626 : Index := Scalar.indexCast arg0
  let c2_197 : Index := 2#32
  let c2048_198 : Index := 2048#32
  ![v626.toNat, 2, 2048]
def k0_off70 (i : grid0.Coords) : Fin 3 → Nat :=
  let arg0 : BitVec 32 := BitVec.ofNat 32 (i 0).val
  let v634 : Index := Scalar.indexCast arg0
  let c3_199 : Index := 3#32
  let c2048_200 : Index := 2048#32
  ![v634.toNat, 3, 2048]
def k0_off71 (i : grid0.Coords) : Fin 3 → Nat :=
  let arg0 : BitVec 32 := BitVec.ofNat 32 (i 0).val
  let v646 : Index := Scalar.indexCast arg0
  let c0_204 : Index := 0#32
  let c2176_205 : Index := 2176#32
  ![v646.toNat, 0, 2176]
def k0_off72 (i : grid0.Coords) : Fin 3 → Nat :=
  let arg0 : BitVec 32 := BitVec.ofNat 32 (i 0).val
  let v654 : Index := Scalar.indexCast arg0
  let c1_206 : Index := 1#32
  let c2176_207 : Index := 2176#32
  ![v654.toNat, 1, 2176]
def k0_off73 (i : grid0.Coords) : Fin 3 → Nat :=
  let arg0 : BitVec 32 := BitVec.ofNat 32 (i 0).val
  let v662 : Index := Scalar.indexCast arg0
  let c2_208 : Index := 2#32
  let c2176_209 : Index := 2176#32
  ![v662.toNat, 2, 2176]
def k0_off74 (i : grid0.Coords) : Fin 3 → Nat :=
  let arg0 : BitVec 32 := BitVec.ofNat 32 (i 0).val
  let v670 : Index := Scalar.indexCast arg0
  let c3_210 : Index := 3#32
  let c2176_211 : Index := 2176#32
  ![v670.toNat, 3, 2176]
def k0_off75 (i : grid0.Coords) : Fin 3 → Nat :=
  let arg0 : BitVec 32 := BitVec.ofNat 32 (i 0).val
  let v684 : Index := Scalar.indexCast arg0
  let c0_218 : Index := 0#32
  let c2304_219 : Index := 2304#32
  ![v684.toNat, 0, 2304]
def k0_off76 (i : grid0.Coords) : Fin 3 → Nat :=
  let arg0 : BitVec 32 := BitVec.ofNat 32 (i 0).val
  let v692 : Index := Scalar.indexCast arg0
  let c1_220 : Index := 1#32
  let c2304_221 : Index := 2304#32
  ![v692.toNat, 1, 2304]
def k0_off77 (i : grid0.Coords) : Fin 3 → Nat :=
  let arg0 : BitVec 32 := BitVec.ofNat 32 (i 0).val
  let v700 : Index := Scalar.indexCast arg0
  let c2_222 : Index := 2#32
  let c2304_223 : Index := 2304#32
  ![v700.toNat, 2, 2304]
def k0_off78 (i : grid0.Coords) : Fin 3 → Nat :=
  let arg0 : BitVec 32 := BitVec.ofNat 32 (i 0).val
  let v708 : Index := Scalar.indexCast arg0
  let c3_224 : Index := 3#32
  let c2304_225 : Index := 2304#32
  ![v708.toNat, 3, 2304]
def k0_off79 (i : grid0.Coords) : Fin 3 → Nat :=
  let arg0 : BitVec 32 := BitVec.ofNat 32 (i 0).val
  let v720 : Index := Scalar.indexCast arg0
  let c0_229 : Index := 0#32
  let c2432_230 : Index := 2432#32
  ![v720.toNat, 0, 2432]
def k0_off80 (i : grid0.Coords) : Fin 3 → Nat :=
  let arg0 : BitVec 32 := BitVec.ofNat 32 (i 0).val
  let v728 : Index := Scalar.indexCast arg0
  let c1_231 : Index := 1#32
  let c2432_232 : Index := 2432#32
  ![v728.toNat, 1, 2432]
def k0_off81 (i : grid0.Coords) : Fin 3 → Nat :=
  let arg0 : BitVec 32 := BitVec.ofNat 32 (i 0).val
  let v736 : Index := Scalar.indexCast arg0
  let c2_233 : Index := 2#32
  let c2432_234 : Index := 2432#32
  ![v736.toNat, 2, 2432]
def k0_off82 (i : grid0.Coords) : Fin 3 → Nat :=
  let arg0 : BitVec 32 := BitVec.ofNat 32 (i 0).val
  let v744 : Index := Scalar.indexCast arg0
  let c3_235 : Index := 3#32
  let c2432_236 : Index := 2432#32
  ![v744.toNat, 3, 2432]
def k0_off83 (i : grid0.Coords) : Fin 3 → Nat :=
  let arg0 : BitVec 32 := BitVec.ofNat 32 (i 0).val
  let v756 : Index := Scalar.indexCast arg0
  let c0_240 : Index := 0#32
  let c2560_241 : Index := 2560#32
  ![v756.toNat, 0, 2560]
def k0_off84 (i : grid0.Coords) : Fin 3 → Nat :=
  let arg0 : BitVec 32 := BitVec.ofNat 32 (i 0).val
  let v764 : Index := Scalar.indexCast arg0
  let c1_242 : Index := 1#32
  let c2560_243 : Index := 2560#32
  ![v764.toNat, 1, 2560]
def k0_off85 (i : grid0.Coords) : Fin 3 → Nat :=
  let arg0 : BitVec 32 := BitVec.ofNat 32 (i 0).val
  let v772 : Index := Scalar.indexCast arg0
  let c2_244 : Index := 2#32
  let c2560_245 : Index := 2560#32
  ![v772.toNat, 2, 2560]
def k0_off86 (i : grid0.Coords) : Fin 3 → Nat :=
  let arg0 : BitVec 32 := BitVec.ofNat 32 (i 0).val
  let v780 : Index := Scalar.indexCast arg0
  let c3_246 : Index := 3#32
  let c2560_247 : Index := 2560#32
  ![v780.toNat, 3, 2560]
def k0_off87 (i : grid0.Coords) : Fin 3 → Nat :=
  let arg0 : BitVec 32 := BitVec.ofNat 32 (i 0).val
  let v792 : Index := Scalar.indexCast arg0
  let c0_251 : Index := 0#32
  let c2688_252 : Index := 2688#32
  ![v792.toNat, 0, 2688]
def k0_off88 (i : grid0.Coords) : Fin 3 → Nat :=
  let arg0 : BitVec 32 := BitVec.ofNat 32 (i 0).val
  let v800 : Index := Scalar.indexCast arg0
  let c1_253 : Index := 1#32
  let c2688_254 : Index := 2688#32
  ![v800.toNat, 1, 2688]
def k0_off89 (i : grid0.Coords) : Fin 3 → Nat :=
  let arg0 : BitVec 32 := BitVec.ofNat 32 (i 0).val
  let v808 : Index := Scalar.indexCast arg0
  let c2_255 : Index := 2#32
  let c2688_256 : Index := 2688#32
  ![v808.toNat, 2, 2688]
def k0_off90 (i : grid0.Coords) : Fin 3 → Nat :=
  let arg0 : BitVec 32 := BitVec.ofNat 32 (i 0).val
  let v816 : Index := Scalar.indexCast arg0
  let c3_257 : Index := 3#32
  let c2688_258 : Index := 2688#32
  ![v816.toNat, 3, 2688]
def k0_off91 (i : grid0.Coords) : Fin 3 → Nat :=
  let arg0 : BitVec 32 := BitVec.ofNat 32 (i 0).val
  let v828 : Index := Scalar.indexCast arg0
  let c0_262 : Index := 0#32
  let c2816_263 : Index := 2816#32
  ![v828.toNat, 0, 2816]
def k0_off92 (i : grid0.Coords) : Fin 3 → Nat :=
  let arg0 : BitVec 32 := BitVec.ofNat 32 (i 0).val
  let v836 : Index := Scalar.indexCast arg0
  let c1_264 : Index := 1#32
  let c2816_265 : Index := 2816#32
  ![v836.toNat, 1, 2816]
def k0_off93 (i : grid0.Coords) : Fin 3 → Nat :=
  let arg0 : BitVec 32 := BitVec.ofNat 32 (i 0).val
  let v844 : Index := Scalar.indexCast arg0
  let c2_266 : Index := 2#32
  let c2816_267 : Index := 2816#32
  ![v844.toNat, 2, 2816]
def k0_off94 (i : grid0.Coords) : Fin 3 → Nat :=
  let arg0 : BitVec 32 := BitVec.ofNat 32 (i 0).val
  let v852 : Index := Scalar.indexCast arg0
  let c3_268 : Index := 3#32
  let c2816_269 : Index := 2816#32
  ![v852.toNat, 3, 2816]
def k0_off95 (i : grid0.Coords) : Fin 3 → Nat :=
  let arg0 : BitVec 32 := BitVec.ofNat 32 (i 0).val
  let v864 : Index := Scalar.indexCast arg0
  let c0_273 : Index := 0#32
  let c2944_274 : Index := 2944#32
  ![v864.toNat, 0, 2944]
def k0_off96 (i : grid0.Coords) : Fin 3 → Nat :=
  let arg0 : BitVec 32 := BitVec.ofNat 32 (i 0).val
  let v872 : Index := Scalar.indexCast arg0
  let c1_275 : Index := 1#32
  let c2944_276 : Index := 2944#32
  ![v872.toNat, 1, 2944]
def k0_off97 (i : grid0.Coords) : Fin 3 → Nat :=
  let arg0 : BitVec 32 := BitVec.ofNat 32 (i 0).val
  let v880 : Index := Scalar.indexCast arg0
  let c2_277 : Index := 2#32
  let c2944_278 : Index := 2944#32
  ![v880.toNat, 2, 2944]
def k0_off98 (i : grid0.Coords) : Fin 3 → Nat :=
  let arg0 : BitVec 32 := BitVec.ofNat 32 (i 0).val
  let v888 : Index := Scalar.indexCast arg0
  let c3_279 : Index := 3#32
  let c2944_280 : Index := 2944#32
  ![v888.toNat, 3, 2944]
def k0_off99 (i : grid0.Coords) : Fin 3 → Nat :=
  let arg0 : BitVec 32 := BitVec.ofNat 32 (i 0).val
  let v902 : Index := Scalar.indexCast arg0
  let c0_287 : Index := 0#32
  let c3072_288 : Index := 3072#32
  ![v902.toNat, 0, 3072]
def k0_off100 (i : grid0.Coords) : Fin 3 → Nat :=
  let arg0 : BitVec 32 := BitVec.ofNat 32 (i 0).val
  let v910 : Index := Scalar.indexCast arg0
  let c1_289 : Index := 1#32
  let c3072_290 : Index := 3072#32
  ![v910.toNat, 1, 3072]
def k0_off101 (i : grid0.Coords) : Fin 3 → Nat :=
  let arg0 : BitVec 32 := BitVec.ofNat 32 (i 0).val
  let v918 : Index := Scalar.indexCast arg0
  let c2_291 : Index := 2#32
  let c3072_292 : Index := 3072#32
  ![v918.toNat, 2, 3072]
def k0_off102 (i : grid0.Coords) : Fin 3 → Nat :=
  let arg0 : BitVec 32 := BitVec.ofNat 32 (i 0).val
  let v926 : Index := Scalar.indexCast arg0
  let c3_293 : Index := 3#32
  let c3072_294 : Index := 3072#32
  ![v926.toNat, 3, 3072]
def k0_off103 (i : grid0.Coords) : Fin 3 → Nat :=
  let arg0 : BitVec 32 := BitVec.ofNat 32 (i 0).val
  let v938 : Index := Scalar.indexCast arg0
  let c0_298 : Index := 0#32
  let c3200_299 : Index := 3200#32
  ![v938.toNat, 0, 3200]
def k0_off104 (i : grid0.Coords) : Fin 3 → Nat :=
  let arg0 : BitVec 32 := BitVec.ofNat 32 (i 0).val
  let v946 : Index := Scalar.indexCast arg0
  let c1_300 : Index := 1#32
  let c3200_301 : Index := 3200#32
  ![v946.toNat, 1, 3200]
def k0_off105 (i : grid0.Coords) : Fin 3 → Nat :=
  let arg0 : BitVec 32 := BitVec.ofNat 32 (i 0).val
  let v954 : Index := Scalar.indexCast arg0
  let c2_302 : Index := 2#32
  let c3200_303 : Index := 3200#32
  ![v954.toNat, 2, 3200]
def k0_off106 (i : grid0.Coords) : Fin 3 → Nat :=
  let arg0 : BitVec 32 := BitVec.ofNat 32 (i 0).val
  let v962 : Index := Scalar.indexCast arg0
  let c3_304 : Index := 3#32
  let c3200_305 : Index := 3200#32
  ![v962.toNat, 3, 3200]
def k0_off107 (i : grid0.Coords) : Fin 3 → Nat :=
  let arg0 : BitVec 32 := BitVec.ofNat 32 (i 0).val
  let v974 : Index := Scalar.indexCast arg0
  let c0_309 : Index := 0#32
  let c3328_310 : Index := 3328#32
  ![v974.toNat, 0, 3328]
def k0_off108 (i : grid0.Coords) : Fin 3 → Nat :=
  let arg0 : BitVec 32 := BitVec.ofNat 32 (i 0).val
  let v982 : Index := Scalar.indexCast arg0
  let c1_311 : Index := 1#32
  let c3328_312 : Index := 3328#32
  ![v982.toNat, 1, 3328]
def k0_off109 (i : grid0.Coords) : Fin 3 → Nat :=
  let arg0 : BitVec 32 := BitVec.ofNat 32 (i 0).val
  let v990 : Index := Scalar.indexCast arg0
  let c2_313 : Index := 2#32
  let c3328_314 : Index := 3328#32
  ![v990.toNat, 2, 3328]
def k0_off110 (i : grid0.Coords) : Fin 3 → Nat :=
  let arg0 : BitVec 32 := BitVec.ofNat 32 (i 0).val
  let v998 : Index := Scalar.indexCast arg0
  let c3_315 : Index := 3#32
  let c3328_316 : Index := 3328#32
  ![v998.toNat, 3, 3328]
def k0_off111 (i : grid0.Coords) : Fin 3 → Nat :=
  let arg0 : BitVec 32 := BitVec.ofNat 32 (i 0).val
  let v1010 : Index := Scalar.indexCast arg0
  let c0_320 : Index := 0#32
  let c3456_321 : Index := 3456#32
  ![v1010.toNat, 0, 3456]
def k0_off112 (i : grid0.Coords) : Fin 3 → Nat :=
  let arg0 : BitVec 32 := BitVec.ofNat 32 (i 0).val
  let v1018 : Index := Scalar.indexCast arg0
  let c1_322 : Index := 1#32
  let c3456_323 : Index := 3456#32
  ![v1018.toNat, 1, 3456]
def k0_off113 (i : grid0.Coords) : Fin 3 → Nat :=
  let arg0 : BitVec 32 := BitVec.ofNat 32 (i 0).val
  let v1026 : Index := Scalar.indexCast arg0
  let c2_324 : Index := 2#32
  let c3456_325 : Index := 3456#32
  ![v1026.toNat, 2, 3456]
def k0_off114 (i : grid0.Coords) : Fin 3 → Nat :=
  let arg0 : BitVec 32 := BitVec.ofNat 32 (i 0).val
  let v1034 : Index := Scalar.indexCast arg0
  let c3_326 : Index := 3#32
  let c3456_327 : Index := 3456#32
  ![v1034.toNat, 3, 3456]
def k0_off115 (i : grid0.Coords) : Fin 3 → Nat :=
  let arg0 : BitVec 32 := BitVec.ofNat 32 (i 0).val
  let v1046 : Index := Scalar.indexCast arg0
  let c0_331 : Index := 0#32
  let c3584_332 : Index := 3584#32
  ![v1046.toNat, 0, 3584]
def k0_off116 (i : grid0.Coords) : Fin 3 → Nat :=
  let arg0 : BitVec 32 := BitVec.ofNat 32 (i 0).val
  let v1054 : Index := Scalar.indexCast arg0
  let c1_333 : Index := 1#32
  let c3584_334 : Index := 3584#32
  ![v1054.toNat, 1, 3584]
def k0_off117 (i : grid0.Coords) : Fin 3 → Nat :=
  let arg0 : BitVec 32 := BitVec.ofNat 32 (i 0).val
  let v1062 : Index := Scalar.indexCast arg0
  let c2_335 : Index := 2#32
  let c3584_336 : Index := 3584#32
  ![v1062.toNat, 2, 3584]
def k0_off118 (i : grid0.Coords) : Fin 3 → Nat :=
  let arg0 : BitVec 32 := BitVec.ofNat 32 (i 0).val
  let v1070 : Index := Scalar.indexCast arg0
  let c3_337 : Index := 3#32
  let c3584_338 : Index := 3584#32
  ![v1070.toNat, 3, 3584]
def k0_off119 (i : grid0.Coords) : Fin 3 → Nat :=
  let arg0 : BitVec 32 := BitVec.ofNat 32 (i 0).val
  let v1082 : Index := Scalar.indexCast arg0
  let c0_342 : Index := 0#32
  let c3712_343 : Index := 3712#32
  ![v1082.toNat, 0, 3712]
def k0_off120 (i : grid0.Coords) : Fin 3 → Nat :=
  let arg0 : BitVec 32 := BitVec.ofNat 32 (i 0).val
  let v1090 : Index := Scalar.indexCast arg0
  let c1_344 : Index := 1#32
  let c3712_345 : Index := 3712#32
  ![v1090.toNat, 1, 3712]
def k0_off121 (i : grid0.Coords) : Fin 3 → Nat :=
  let arg0 : BitVec 32 := BitVec.ofNat 32 (i 0).val
  let v1098 : Index := Scalar.indexCast arg0
  let c2_346 : Index := 2#32
  let c3712_347 : Index := 3712#32
  ![v1098.toNat, 2, 3712]
def k0_off122 (i : grid0.Coords) : Fin 3 → Nat :=
  let arg0 : BitVec 32 := BitVec.ofNat 32 (i 0).val
  let v1106 : Index := Scalar.indexCast arg0
  let c3_348 : Index := 3#32
  let c3712_349 : Index := 3712#32
  ![v1106.toNat, 3, 3712]
def k0_mult6 (i : grid0.Coords) : BitVec 32 :=
  let arg0 : BitVec 32 := BitVec.ofNat 32 (i 0).val
  let c1024_i32_352 : BitVec 32 := 1024#32
  let v1117 : BitVec 32 := Scalar.muli arg0 c1024_i32_352
  let c512_i32 : BitVec 32 := 512#32
  let v1118 : BitVec 32 := Scalar.addi v1117 c512_i32
  v1118
def k0_mult7 (i : grid0.Coords) : BitVec 32 :=
  let arg0 : BitVec 32 := BitVec.ofNat 32 (i 0).val
  let c8_i32_354 : BitVec 32 := 8#32
  let v1122 : BitVec 32 := Scalar.muli arg0 c8_i32_354
  let c4_i32 : BitVec 32 := 4#32
  let v1123 : BitVec 32 := Scalar.addi v1122 c4_i32
  let c8_i32_355 : BitVec 32 := 8#32
  let v1124 : BitVec 32 := Scalar.muli v1123 c8_i32_355
  let c0_i32_356 : BitVec 32 := 0#32
  let v1125 : BitVec 32 := Scalar.addi v1124 c0_i32_356
  v1125
def k0_mult8 (i : grid0.Coords) : BitVec 32 :=
  let arg0 : BitVec 32 := BitVec.ofNat 32 (i 0).val
  let c8_i32_354 : BitVec 32 := 8#32
  let v1122 : BitVec 32 := Scalar.muli arg0 c8_i32_354
  let c4_i32 : BitVec 32 := 4#32
  let v1123 : BitVec 32 := Scalar.addi v1122 c4_i32
  let c8_i32_355 : BitVec 32 := 8#32
  let v1124 : BitVec 32 := Scalar.muli v1123 c8_i32_355
  let c8_i32_358 : BitVec 32 := 8#32
  let v1129 : BitVec 32 := Scalar.addi v1124 c8_i32_358
  v1129
def k0_mult9 (i : grid0.Coords) : BitVec 32 :=
  let arg0 : BitVec 32 := BitVec.ofNat 32 (i 0).val
  let c8_i32_354 : BitVec 32 := 8#32
  let v1122 : BitVec 32 := Scalar.muli arg0 c8_i32_354
  let c4_i32 : BitVec 32 := 4#32
  let v1123 : BitVec 32 := Scalar.addi v1122 c4_i32
  let c8_i32_355 : BitVec 32 := 8#32
  let v1124 : BitVec 32 := Scalar.muli v1123 c8_i32_355
  let c16_i32_360 : BitVec 32 := 16#32
  let v1133 : BitVec 32 := Scalar.addi v1124 c16_i32_360
  v1133
def k0_mult10 (i : grid0.Coords) : BitVec 32 :=
  let arg0 : BitVec 32 := BitVec.ofNat 32 (i 0).val
  let c8_i32_354 : BitVec 32 := 8#32
  let v1122 : BitVec 32 := Scalar.muli arg0 c8_i32_354
  let c4_i32 : BitVec 32 := 4#32
  let v1123 : BitVec 32 := Scalar.addi v1122 c4_i32
  let c8_i32_355 : BitVec 32 := 8#32
  let v1124 : BitVec 32 := Scalar.muli v1123 c8_i32_355
  let c24_i32_362 : BitVec 32 := 24#32
  let v1137 : BitVec 32 := Scalar.addi v1124 c24_i32_362
  v1137
def k0_off123 (i : grid0.Coords) : Fin 3 → Nat :=
  let arg0 : BitVec 32 := BitVec.ofNat 32 (i 0).val
  let v1144 : Index := Scalar.indexCast arg0
  let c4 : Index := 4#32
  let c0_369 : Index := 0#32
  ![v1144.toNat, 4, 0]
def k0_off124 (i : grid0.Coords) : Fin 3 → Nat :=
  let arg0 : BitVec 32 := BitVec.ofNat 32 (i 0).val
  let v1152 : Index := Scalar.indexCast arg0
  let c5 : Index := 5#32
  let c0_370 : Index := 0#32
  ![v1152.toNat, 5, 0]
def k0_off125 (i : grid0.Coords) : Fin 3 → Nat :=
  let arg0 : BitVec 32 := BitVec.ofNat 32 (i 0).val
  let v1160 : Index := Scalar.indexCast arg0
  let c6 : Index := 6#32
  let c0_371 : Index := 0#32
  ![v1160.toNat, 6, 0]
def k0_off126 (i : grid0.Coords) : Fin 3 → Nat :=
  let arg0 : BitVec 32 := BitVec.ofNat 32 (i 0).val
  let v1168 : Index := Scalar.indexCast arg0
  let c7 : Index := 7#32
  let c0_372 : Index := 0#32
  ![v1168.toNat, 7, 0]
def k0_off127 (i : grid0.Coords) : Fin 3 → Nat :=
  let arg0 : BitVec 32 := BitVec.ofNat 32 (i 0).val
  let v1180 : Index := Scalar.indexCast arg0
  let c4_377 : Index := 4#32
  let c128_378 : Index := 128#32
  ![v1180.toNat, 4, 128]
def k0_off128 (i : grid0.Coords) : Fin 3 → Nat :=
  let arg0 : BitVec 32 := BitVec.ofNat 32 (i 0).val
  let v1188 : Index := Scalar.indexCast arg0
  let c5_379 : Index := 5#32
  let c128_380 : Index := 128#32
  ![v1188.toNat, 5, 128]
def k0_off129 (i : grid0.Coords) : Fin 3 → Nat :=
  let arg0 : BitVec 32 := BitVec.ofNat 32 (i 0).val
  let v1196 : Index := Scalar.indexCast arg0
  let c6_381 : Index := 6#32
  let c128_382 : Index := 128#32
  ![v1196.toNat, 6, 128]
def k0_off130 (i : grid0.Coords) : Fin 3 → Nat :=
  let arg0 : BitVec 32 := BitVec.ofNat 32 (i 0).val
  let v1204 : Index := Scalar.indexCast arg0
  let c7_383 : Index := 7#32
  let c128_384 : Index := 128#32
  ![v1204.toNat, 7, 128]
def k0_off131 (i : grid0.Coords) : Fin 3 → Nat :=
  let arg0 : BitVec 32 := BitVec.ofNat 32 (i 0).val
  let v1216 : Index := Scalar.indexCast arg0
  let c4_389 : Index := 4#32
  let c256_390 : Index := 256#32
  ![v1216.toNat, 4, 256]
def k0_off132 (i : grid0.Coords) : Fin 3 → Nat :=
  let arg0 : BitVec 32 := BitVec.ofNat 32 (i 0).val
  let v1224 : Index := Scalar.indexCast arg0
  let c5_391 : Index := 5#32
  let c256_392 : Index := 256#32
  ![v1224.toNat, 5, 256]
def k0_off133 (i : grid0.Coords) : Fin 3 → Nat :=
  let arg0 : BitVec 32 := BitVec.ofNat 32 (i 0).val
  let v1232 : Index := Scalar.indexCast arg0
  let c6_393 : Index := 6#32
  let c256_394 : Index := 256#32
  ![v1232.toNat, 6, 256]
def k0_off134 (i : grid0.Coords) : Fin 3 → Nat :=
  let arg0 : BitVec 32 := BitVec.ofNat 32 (i 0).val
  let v1240 : Index := Scalar.indexCast arg0
  let c7_395 : Index := 7#32
  let c256_396 : Index := 256#32
  ![v1240.toNat, 7, 256]
def k0_off135 (i : grid0.Coords) : Fin 3 → Nat :=
  let arg0 : BitVec 32 := BitVec.ofNat 32 (i 0).val
  let v1252 : Index := Scalar.indexCast arg0
  let c4_401 : Index := 4#32
  let c384_402 : Index := 384#32
  ![v1252.toNat, 4, 384]
def k0_off136 (i : grid0.Coords) : Fin 3 → Nat :=
  let arg0 : BitVec 32 := BitVec.ofNat 32 (i 0).val
  let v1260 : Index := Scalar.indexCast arg0
  let c5_403 : Index := 5#32
  let c384_404 : Index := 384#32
  ![v1260.toNat, 5, 384]
def k0_off137 (i : grid0.Coords) : Fin 3 → Nat :=
  let arg0 : BitVec 32 := BitVec.ofNat 32 (i 0).val
  let v1268 : Index := Scalar.indexCast arg0
  let c6_405 : Index := 6#32
  let c384_406 : Index := 384#32
  ![v1268.toNat, 6, 384]
def k0_off138 (i : grid0.Coords) : Fin 3 → Nat :=
  let arg0 : BitVec 32 := BitVec.ofNat 32 (i 0).val
  let v1276 : Index := Scalar.indexCast arg0
  let c7_407 : Index := 7#32
  let c384_408 : Index := 384#32
  ![v1276.toNat, 7, 384]
def k0_off139 (i : grid0.Coords) : Fin 3 → Nat :=
  let arg0 : BitVec 32 := BitVec.ofNat 32 (i 0).val
  let v1288 : Index := Scalar.indexCast arg0
  let c4_413 : Index := 4#32
  let c512_414 : Index := 512#32
  ![v1288.toNat, 4, 512]
def k0_off140 (i : grid0.Coords) : Fin 3 → Nat :=
  let arg0 : BitVec 32 := BitVec.ofNat 32 (i 0).val
  let v1296 : Index := Scalar.indexCast arg0
  let c5_415 : Index := 5#32
  let c512_416 : Index := 512#32
  ![v1296.toNat, 5, 512]
def k0_off141 (i : grid0.Coords) : Fin 3 → Nat :=
  let arg0 : BitVec 32 := BitVec.ofNat 32 (i 0).val
  let v1304 : Index := Scalar.indexCast arg0
  let c6_417 : Index := 6#32
  let c512_418 : Index := 512#32
  ![v1304.toNat, 6, 512]
def k0_off142 (i : grid0.Coords) : Fin 3 → Nat :=
  let arg0 : BitVec 32 := BitVec.ofNat 32 (i 0).val
  let v1312 : Index := Scalar.indexCast arg0
  let c7_419 : Index := 7#32
  let c512_420 : Index := 512#32
  ![v1312.toNat, 7, 512]
def k0_off143 (i : grid0.Coords) : Fin 3 → Nat :=
  let arg0 : BitVec 32 := BitVec.ofNat 32 (i 0).val
  let v1324 : Index := Scalar.indexCast arg0
  let c4_425 : Index := 4#32
  let c640_426 : Index := 640#32
  ![v1324.toNat, 4, 640]
def k0_off144 (i : grid0.Coords) : Fin 3 → Nat :=
  let arg0 : BitVec 32 := BitVec.ofNat 32 (i 0).val
  let v1332 : Index := Scalar.indexCast arg0
  let c5_427 : Index := 5#32
  let c640_428 : Index := 640#32
  ![v1332.toNat, 5, 640]
def k0_off145 (i : grid0.Coords) : Fin 3 → Nat :=
  let arg0 : BitVec 32 := BitVec.ofNat 32 (i 0).val
  let v1340 : Index := Scalar.indexCast arg0
  let c6_429 : Index := 6#32
  let c640_430 : Index := 640#32
  ![v1340.toNat, 6, 640]
def k0_off146 (i : grid0.Coords) : Fin 3 → Nat :=
  let arg0 : BitVec 32 := BitVec.ofNat 32 (i 0).val
  let v1348 : Index := Scalar.indexCast arg0
  let c7_431 : Index := 7#32
  let c640_432 : Index := 640#32
  ![v1348.toNat, 7, 640]
def k0_off147 (i : grid0.Coords) : Fin 3 → Nat :=
  let arg0 : BitVec 32 := BitVec.ofNat 32 (i 0).val
  let v1362 : Index := Scalar.indexCast arg0
  let c4_440 : Index := 4#32
  let c768_441 : Index := 768#32
  ![v1362.toNat, 4, 768]
def k0_off148 (i : grid0.Coords) : Fin 3 → Nat :=
  let arg0 : BitVec 32 := BitVec.ofNat 32 (i 0).val
  let v1370 : Index := Scalar.indexCast arg0
  let c5_442 : Index := 5#32
  let c768_443 : Index := 768#32
  ![v1370.toNat, 5, 768]
def k0_off149 (i : grid0.Coords) : Fin 3 → Nat :=
  let arg0 : BitVec 32 := BitVec.ofNat 32 (i 0).val
  let v1378 : Index := Scalar.indexCast arg0
  let c6_444 : Index := 6#32
  let c768_445 : Index := 768#32
  ![v1378.toNat, 6, 768]
def k0_off150 (i : grid0.Coords) : Fin 3 → Nat :=
  let arg0 : BitVec 32 := BitVec.ofNat 32 (i 0).val
  let v1386 : Index := Scalar.indexCast arg0
  let c7_446 : Index := 7#32
  let c768_447 : Index := 768#32
  ![v1386.toNat, 7, 768]
def k0_off151 (i : grid0.Coords) : Fin 3 → Nat :=
  let arg0 : BitVec 32 := BitVec.ofNat 32 (i 0).val
  let v1398 : Index := Scalar.indexCast arg0
  let c4_452 : Index := 4#32
  let c896_453 : Index := 896#32
  ![v1398.toNat, 4, 896]
def k0_off152 (i : grid0.Coords) : Fin 3 → Nat :=
  let arg0 : BitVec 32 := BitVec.ofNat 32 (i 0).val
  let v1406 : Index := Scalar.indexCast arg0
  let c5_454 : Index := 5#32
  let c896_455 : Index := 896#32
  ![v1406.toNat, 5, 896]
def k0_off153 (i : grid0.Coords) : Fin 3 → Nat :=
  let arg0 : BitVec 32 := BitVec.ofNat 32 (i 0).val
  let v1414 : Index := Scalar.indexCast arg0
  let c6_456 : Index := 6#32
  let c896_457 : Index := 896#32
  ![v1414.toNat, 6, 896]
def k0_off154 (i : grid0.Coords) : Fin 3 → Nat :=
  let arg0 : BitVec 32 := BitVec.ofNat 32 (i 0).val
  let v1422 : Index := Scalar.indexCast arg0
  let c7_458 : Index := 7#32
  let c896_459 : Index := 896#32
  ![v1422.toNat, 7, 896]
def k0_off155 (i : grid0.Coords) : Fin 3 → Nat :=
  let arg0 : BitVec 32 := BitVec.ofNat 32 (i 0).val
  let v1434 : Index := Scalar.indexCast arg0
  let c4_464 : Index := 4#32
  let c1024_465 : Index := 1024#32
  ![v1434.toNat, 4, 1024]
def k0_off156 (i : grid0.Coords) : Fin 3 → Nat :=
  let arg0 : BitVec 32 := BitVec.ofNat 32 (i 0).val
  let v1442 : Index := Scalar.indexCast arg0
  let c5_466 : Index := 5#32
  let c1024_467 : Index := 1024#32
  ![v1442.toNat, 5, 1024]
def k0_off157 (i : grid0.Coords) : Fin 3 → Nat :=
  let arg0 : BitVec 32 := BitVec.ofNat 32 (i 0).val
  let v1450 : Index := Scalar.indexCast arg0
  let c6_468 : Index := 6#32
  let c1024_469 : Index := 1024#32
  ![v1450.toNat, 6, 1024]
def k0_off158 (i : grid0.Coords) : Fin 3 → Nat :=
  let arg0 : BitVec 32 := BitVec.ofNat 32 (i 0).val
  let v1458 : Index := Scalar.indexCast arg0
  let c7_470 : Index := 7#32
  let c1024_471 : Index := 1024#32
  ![v1458.toNat, 7, 1024]
def k0_off159 (i : grid0.Coords) : Fin 3 → Nat :=
  let arg0 : BitVec 32 := BitVec.ofNat 32 (i 0).val
  let v1470 : Index := Scalar.indexCast arg0
  let c4_476 : Index := 4#32
  let c1152_477 : Index := 1152#32
  ![v1470.toNat, 4, 1152]
def k0_off160 (i : grid0.Coords) : Fin 3 → Nat :=
  let arg0 : BitVec 32 := BitVec.ofNat 32 (i 0).val
  let v1478 : Index := Scalar.indexCast arg0
  let c5_478 : Index := 5#32
  let c1152_479 : Index := 1152#32
  ![v1478.toNat, 5, 1152]
def k0_off161 (i : grid0.Coords) : Fin 3 → Nat :=
  let arg0 : BitVec 32 := BitVec.ofNat 32 (i 0).val
  let v1486 : Index := Scalar.indexCast arg0
  let c6_480 : Index := 6#32
  let c1152_481 : Index := 1152#32
  ![v1486.toNat, 6, 1152]
def k0_off162 (i : grid0.Coords) : Fin 3 → Nat :=
  let arg0 : BitVec 32 := BitVec.ofNat 32 (i 0).val
  let v1494 : Index := Scalar.indexCast arg0
  let c7_482 : Index := 7#32
  let c1152_483 : Index := 1152#32
  ![v1494.toNat, 7, 1152]
def k0_off163 (i : grid0.Coords) : Fin 3 → Nat :=
  let arg0 : BitVec 32 := BitVec.ofNat 32 (i 0).val
  let v1506 : Index := Scalar.indexCast arg0
  let c4_488 : Index := 4#32
  let c1280_489 : Index := 1280#32
  ![v1506.toNat, 4, 1280]
def k0_off164 (i : grid0.Coords) : Fin 3 → Nat :=
  let arg0 : BitVec 32 := BitVec.ofNat 32 (i 0).val
  let v1514 : Index := Scalar.indexCast arg0
  let c5_490 : Index := 5#32
  let c1280_491 : Index := 1280#32
  ![v1514.toNat, 5, 1280]
def k0_off165 (i : grid0.Coords) : Fin 3 → Nat :=
  let arg0 : BitVec 32 := BitVec.ofNat 32 (i 0).val
  let v1522 : Index := Scalar.indexCast arg0
  let c6_492 : Index := 6#32
  let c1280_493 : Index := 1280#32
  ![v1522.toNat, 6, 1280]
def k0_off166 (i : grid0.Coords) : Fin 3 → Nat :=
  let arg0 : BitVec 32 := BitVec.ofNat 32 (i 0).val
  let v1530 : Index := Scalar.indexCast arg0
  let c7_494 : Index := 7#32
  let c1280_495 : Index := 1280#32
  ![v1530.toNat, 7, 1280]
def k0_off167 (i : grid0.Coords) : Fin 3 → Nat :=
  let arg0 : BitVec 32 := BitVec.ofNat 32 (i 0).val
  let v1542 : Index := Scalar.indexCast arg0
  let c4_500 : Index := 4#32
  let c1408_501 : Index := 1408#32
  ![v1542.toNat, 4, 1408]
def k0_off168 (i : grid0.Coords) : Fin 3 → Nat :=
  let arg0 : BitVec 32 := BitVec.ofNat 32 (i 0).val
  let v1550 : Index := Scalar.indexCast arg0
  let c5_502 : Index := 5#32
  let c1408_503 : Index := 1408#32
  ![v1550.toNat, 5, 1408]
def k0_off169 (i : grid0.Coords) : Fin 3 → Nat :=
  let arg0 : BitVec 32 := BitVec.ofNat 32 (i 0).val
  let v1558 : Index := Scalar.indexCast arg0
  let c6_504 : Index := 6#32
  let c1408_505 : Index := 1408#32
  ![v1558.toNat, 6, 1408]
def k0_off170 (i : grid0.Coords) : Fin 3 → Nat :=
  let arg0 : BitVec 32 := BitVec.ofNat 32 (i 0).val
  let v1566 : Index := Scalar.indexCast arg0
  let c7_506 : Index := 7#32
  let c1408_507 : Index := 1408#32
  ![v1566.toNat, 7, 1408]
def k0_off171 (i : grid0.Coords) : Fin 3 → Nat :=
  let arg0 : BitVec 32 := BitVec.ofNat 32 (i 0).val
  let v1580 : Index := Scalar.indexCast arg0
  let c4_515 : Index := 4#32
  let c1536_516 : Index := 1536#32
  ![v1580.toNat, 4, 1536]
def k0_off172 (i : grid0.Coords) : Fin 3 → Nat :=
  let arg0 : BitVec 32 := BitVec.ofNat 32 (i 0).val
  let v1588 : Index := Scalar.indexCast arg0
  let c5_517 : Index := 5#32
  let c1536_518 : Index := 1536#32
  ![v1588.toNat, 5, 1536]
def k0_off173 (i : grid0.Coords) : Fin 3 → Nat :=
  let arg0 : BitVec 32 := BitVec.ofNat 32 (i 0).val
  let v1596 : Index := Scalar.indexCast arg0
  let c6_519 : Index := 6#32
  let c1536_520 : Index := 1536#32
  ![v1596.toNat, 6, 1536]
def k0_off174 (i : grid0.Coords) : Fin 3 → Nat :=
  let arg0 : BitVec 32 := BitVec.ofNat 32 (i 0).val
  let v1604 : Index := Scalar.indexCast arg0
  let c7_521 : Index := 7#32
  let c1536_522 : Index := 1536#32
  ![v1604.toNat, 7, 1536]
def k0_off175 (i : grid0.Coords) : Fin 3 → Nat :=
  let arg0 : BitVec 32 := BitVec.ofNat 32 (i 0).val
  let v1616 : Index := Scalar.indexCast arg0
  let c4_527 : Index := 4#32
  let c1664_528 : Index := 1664#32
  ![v1616.toNat, 4, 1664]
def k0_off176 (i : grid0.Coords) : Fin 3 → Nat :=
  let arg0 : BitVec 32 := BitVec.ofNat 32 (i 0).val
  let v1624 : Index := Scalar.indexCast arg0
  let c5_529 : Index := 5#32
  let c1664_530 : Index := 1664#32
  ![v1624.toNat, 5, 1664]
def k0_off177 (i : grid0.Coords) : Fin 3 → Nat :=
  let arg0 : BitVec 32 := BitVec.ofNat 32 (i 0).val
  let v1632 : Index := Scalar.indexCast arg0
  let c6_531 : Index := 6#32
  let c1664_532 : Index := 1664#32
  ![v1632.toNat, 6, 1664]
def k0_off178 (i : grid0.Coords) : Fin 3 → Nat :=
  let arg0 : BitVec 32 := BitVec.ofNat 32 (i 0).val
  let v1640 : Index := Scalar.indexCast arg0
  let c7_533 : Index := 7#32
  let c1664_534 : Index := 1664#32
  ![v1640.toNat, 7, 1664]
def k0_off179 (i : grid0.Coords) : Fin 3 → Nat :=
  let arg0 : BitVec 32 := BitVec.ofNat 32 (i 0).val
  let v1652 : Index := Scalar.indexCast arg0
  let c4_539 : Index := 4#32
  let c1792_540 : Index := 1792#32
  ![v1652.toNat, 4, 1792]
def k0_off180 (i : grid0.Coords) : Fin 3 → Nat :=
  let arg0 : BitVec 32 := BitVec.ofNat 32 (i 0).val
  let v1660 : Index := Scalar.indexCast arg0
  let c5_541 : Index := 5#32
  let c1792_542 : Index := 1792#32
  ![v1660.toNat, 5, 1792]
def k0_off181 (i : grid0.Coords) : Fin 3 → Nat :=
  let arg0 : BitVec 32 := BitVec.ofNat 32 (i 0).val
  let v1668 : Index := Scalar.indexCast arg0
  let c6_543 : Index := 6#32
  let c1792_544 : Index := 1792#32
  ![v1668.toNat, 6, 1792]
def k0_off182 (i : grid0.Coords) : Fin 3 → Nat :=
  let arg0 : BitVec 32 := BitVec.ofNat 32 (i 0).val
  let v1676 : Index := Scalar.indexCast arg0
  let c7_545 : Index := 7#32
  let c1792_546 : Index := 1792#32
  ![v1676.toNat, 7, 1792]
def k0_off183 (i : grid0.Coords) : Fin 3 → Nat :=
  let arg0 : BitVec 32 := BitVec.ofNat 32 (i 0).val
  let v1688 : Index := Scalar.indexCast arg0
  let c4_551 : Index := 4#32
  let c1920_552 : Index := 1920#32
  ![v1688.toNat, 4, 1920]
def k0_off184 (i : grid0.Coords) : Fin 3 → Nat :=
  let arg0 : BitVec 32 := BitVec.ofNat 32 (i 0).val
  let v1696 : Index := Scalar.indexCast arg0
  let c5_553 : Index := 5#32
  let c1920_554 : Index := 1920#32
  ![v1696.toNat, 5, 1920]
def k0_off185 (i : grid0.Coords) : Fin 3 → Nat :=
  let arg0 : BitVec 32 := BitVec.ofNat 32 (i 0).val
  let v1704 : Index := Scalar.indexCast arg0
  let c6_555 : Index := 6#32
  let c1920_556 : Index := 1920#32
  ![v1704.toNat, 6, 1920]
def k0_off186 (i : grid0.Coords) : Fin 3 → Nat :=
  let arg0 : BitVec 32 := BitVec.ofNat 32 (i 0).val
  let v1712 : Index := Scalar.indexCast arg0
  let c7_557 : Index := 7#32
  let c1920_558 : Index := 1920#32
  ![v1712.toNat, 7, 1920]
def k0_off187 (i : grid0.Coords) : Fin 3 → Nat :=
  let arg0 : BitVec 32 := BitVec.ofNat 32 (i 0).val
  let v1724 : Index := Scalar.indexCast arg0
  let c4_563 : Index := 4#32
  let c2048_564 : Index := 2048#32
  ![v1724.toNat, 4, 2048]
def k0_off188 (i : grid0.Coords) : Fin 3 → Nat :=
  let arg0 : BitVec 32 := BitVec.ofNat 32 (i 0).val
  let v1732 : Index := Scalar.indexCast arg0
  let c5_565 : Index := 5#32
  let c2048_566 : Index := 2048#32
  ![v1732.toNat, 5, 2048]
def k0_off189 (i : grid0.Coords) : Fin 3 → Nat :=
  let arg0 : BitVec 32 := BitVec.ofNat 32 (i 0).val
  let v1740 : Index := Scalar.indexCast arg0
  let c6_567 : Index := 6#32
  let c2048_568 : Index := 2048#32
  ![v1740.toNat, 6, 2048]
def k0_off190 (i : grid0.Coords) : Fin 3 → Nat :=
  let arg0 : BitVec 32 := BitVec.ofNat 32 (i 0).val
  let v1748 : Index := Scalar.indexCast arg0
  let c7_569 : Index := 7#32
  let c2048_570 : Index := 2048#32
  ![v1748.toNat, 7, 2048]
def k0_off191 (i : grid0.Coords) : Fin 3 → Nat :=
  let arg0 : BitVec 32 := BitVec.ofNat 32 (i 0).val
  let v1760 : Index := Scalar.indexCast arg0
  let c4_575 : Index := 4#32
  let c2176_576 : Index := 2176#32
  ![v1760.toNat, 4, 2176]
def k0_off192 (i : grid0.Coords) : Fin 3 → Nat :=
  let arg0 : BitVec 32 := BitVec.ofNat 32 (i 0).val
  let v1768 : Index := Scalar.indexCast arg0
  let c5_577 : Index := 5#32
  let c2176_578 : Index := 2176#32
  ![v1768.toNat, 5, 2176]
def k0_off193 (i : grid0.Coords) : Fin 3 → Nat :=
  let arg0 : BitVec 32 := BitVec.ofNat 32 (i 0).val
  let v1776 : Index := Scalar.indexCast arg0
  let c6_579 : Index := 6#32
  let c2176_580 : Index := 2176#32
  ![v1776.toNat, 6, 2176]
def k0_off194 (i : grid0.Coords) : Fin 3 → Nat :=
  let arg0 : BitVec 32 := BitVec.ofNat 32 (i 0).val
  let v1784 : Index := Scalar.indexCast arg0
  let c7_581 : Index := 7#32
  let c2176_582 : Index := 2176#32
  ![v1784.toNat, 7, 2176]
def k0_off195 (i : grid0.Coords) : Fin 3 → Nat :=
  let arg0 : BitVec 32 := BitVec.ofNat 32 (i 0).val
  let v1798 : Index := Scalar.indexCast arg0
  let c4_590 : Index := 4#32
  let c2304_591 : Index := 2304#32
  ![v1798.toNat, 4, 2304]
def k0_off196 (i : grid0.Coords) : Fin 3 → Nat :=
  let arg0 : BitVec 32 := BitVec.ofNat 32 (i 0).val
  let v1806 : Index := Scalar.indexCast arg0
  let c5_592 : Index := 5#32
  let c2304_593 : Index := 2304#32
  ![v1806.toNat, 5, 2304]
def k0_off197 (i : grid0.Coords) : Fin 3 → Nat :=
  let arg0 : BitVec 32 := BitVec.ofNat 32 (i 0).val
  let v1814 : Index := Scalar.indexCast arg0
  let c6_594 : Index := 6#32
  let c2304_595 : Index := 2304#32
  ![v1814.toNat, 6, 2304]
def k0_off198 (i : grid0.Coords) : Fin 3 → Nat :=
  let arg0 : BitVec 32 := BitVec.ofNat 32 (i 0).val
  let v1822 : Index := Scalar.indexCast arg0
  let c7_596 : Index := 7#32
  let c2304_597 : Index := 2304#32
  ![v1822.toNat, 7, 2304]
def k0_off199 (i : grid0.Coords) : Fin 3 → Nat :=
  let arg0 : BitVec 32 := BitVec.ofNat 32 (i 0).val
  let v1834 : Index := Scalar.indexCast arg0
  let c4_602 : Index := 4#32
  let c2432_603 : Index := 2432#32
  ![v1834.toNat, 4, 2432]
def k0_off200 (i : grid0.Coords) : Fin 3 → Nat :=
  let arg0 : BitVec 32 := BitVec.ofNat 32 (i 0).val
  let v1842 : Index := Scalar.indexCast arg0
  let c5_604 : Index := 5#32
  let c2432_605 : Index := 2432#32
  ![v1842.toNat, 5, 2432]
def k0_off201 (i : grid0.Coords) : Fin 3 → Nat :=
  let arg0 : BitVec 32 := BitVec.ofNat 32 (i 0).val
  let v1850 : Index := Scalar.indexCast arg0
  let c6_606 : Index := 6#32
  let c2432_607 : Index := 2432#32
  ![v1850.toNat, 6, 2432]
def k0_off202 (i : grid0.Coords) : Fin 3 → Nat :=
  let arg0 : BitVec 32 := BitVec.ofNat 32 (i 0).val
  let v1858 : Index := Scalar.indexCast arg0
  let c7_608 : Index := 7#32
  let c2432_609 : Index := 2432#32
  ![v1858.toNat, 7, 2432]
def k0_off203 (i : grid0.Coords) : Fin 3 → Nat :=
  let arg0 : BitVec 32 := BitVec.ofNat 32 (i 0).val
  let v1870 : Index := Scalar.indexCast arg0
  let c4_614 : Index := 4#32
  let c2560_615 : Index := 2560#32
  ![v1870.toNat, 4, 2560]
def k0_off204 (i : grid0.Coords) : Fin 3 → Nat :=
  let arg0 : BitVec 32 := BitVec.ofNat 32 (i 0).val
  let v1878 : Index := Scalar.indexCast arg0
  let c5_616 : Index := 5#32
  let c2560_617 : Index := 2560#32
  ![v1878.toNat, 5, 2560]
def k0_off205 (i : grid0.Coords) : Fin 3 → Nat :=
  let arg0 : BitVec 32 := BitVec.ofNat 32 (i 0).val
  let v1886 : Index := Scalar.indexCast arg0
  let c6_618 : Index := 6#32
  let c2560_619 : Index := 2560#32
  ![v1886.toNat, 6, 2560]
def k0_off206 (i : grid0.Coords) : Fin 3 → Nat :=
  let arg0 : BitVec 32 := BitVec.ofNat 32 (i 0).val
  let v1894 : Index := Scalar.indexCast arg0
  let c7_620 : Index := 7#32
  let c2560_621 : Index := 2560#32
  ![v1894.toNat, 7, 2560]
def k0_off207 (i : grid0.Coords) : Fin 3 → Nat :=
  let arg0 : BitVec 32 := BitVec.ofNat 32 (i 0).val
  let v1906 : Index := Scalar.indexCast arg0
  let c4_626 : Index := 4#32
  let c2688_627 : Index := 2688#32
  ![v1906.toNat, 4, 2688]
def k0_off208 (i : grid0.Coords) : Fin 3 → Nat :=
  let arg0 : BitVec 32 := BitVec.ofNat 32 (i 0).val
  let v1914 : Index := Scalar.indexCast arg0
  let c5_628 : Index := 5#32
  let c2688_629 : Index := 2688#32
  ![v1914.toNat, 5, 2688]
def k0_off209 (i : grid0.Coords) : Fin 3 → Nat :=
  let arg0 : BitVec 32 := BitVec.ofNat 32 (i 0).val
  let v1922 : Index := Scalar.indexCast arg0
  let c6_630 : Index := 6#32
  let c2688_631 : Index := 2688#32
  ![v1922.toNat, 6, 2688]
def k0_off210 (i : grid0.Coords) : Fin 3 → Nat :=
  let arg0 : BitVec 32 := BitVec.ofNat 32 (i 0).val
  let v1930 : Index := Scalar.indexCast arg0
  let c7_632 : Index := 7#32
  let c2688_633 : Index := 2688#32
  ![v1930.toNat, 7, 2688]
def k0_off211 (i : grid0.Coords) : Fin 3 → Nat :=
  let arg0 : BitVec 32 := BitVec.ofNat 32 (i 0).val
  let v1942 : Index := Scalar.indexCast arg0
  let c4_638 : Index := 4#32
  let c2816_639 : Index := 2816#32
  ![v1942.toNat, 4, 2816]
def k0_off212 (i : grid0.Coords) : Fin 3 → Nat :=
  let arg0 : BitVec 32 := BitVec.ofNat 32 (i 0).val
  let v1950 : Index := Scalar.indexCast arg0
  let c5_640 : Index := 5#32
  let c2816_641 : Index := 2816#32
  ![v1950.toNat, 5, 2816]
def k0_off213 (i : grid0.Coords) : Fin 3 → Nat :=
  let arg0 : BitVec 32 := BitVec.ofNat 32 (i 0).val
  let v1958 : Index := Scalar.indexCast arg0
  let c6_642 : Index := 6#32
  let c2816_643 : Index := 2816#32
  ![v1958.toNat, 6, 2816]
def k0_off214 (i : grid0.Coords) : Fin 3 → Nat :=
  let arg0 : BitVec 32 := BitVec.ofNat 32 (i 0).val
  let v1966 : Index := Scalar.indexCast arg0
  let c7_644 : Index := 7#32
  let c2816_645 : Index := 2816#32
  ![v1966.toNat, 7, 2816]
def k0_off215 (i : grid0.Coords) : Fin 3 → Nat :=
  let arg0 : BitVec 32 := BitVec.ofNat 32 (i 0).val
  let v1978 : Index := Scalar.indexCast arg0
  let c4_650 : Index := 4#32
  let c2944_651 : Index := 2944#32
  ![v1978.toNat, 4, 2944]
def k0_off216 (i : grid0.Coords) : Fin 3 → Nat :=
  let arg0 : BitVec 32 := BitVec.ofNat 32 (i 0).val
  let v1986 : Index := Scalar.indexCast arg0
  let c5_652 : Index := 5#32
  let c2944_653 : Index := 2944#32
  ![v1986.toNat, 5, 2944]
def k0_off217 (i : grid0.Coords) : Fin 3 → Nat :=
  let arg0 : BitVec 32 := BitVec.ofNat 32 (i 0).val
  let v1994 : Index := Scalar.indexCast arg0
  let c6_654 : Index := 6#32
  let c2944_655 : Index := 2944#32
  ![v1994.toNat, 6, 2944]
def k0_off218 (i : grid0.Coords) : Fin 3 → Nat :=
  let arg0 : BitVec 32 := BitVec.ofNat 32 (i 0).val
  let v2002 : Index := Scalar.indexCast arg0
  let c7_656 : Index := 7#32
  let c2944_657 : Index := 2944#32
  ![v2002.toNat, 7, 2944]
def k0_off219 (i : grid0.Coords) : Fin 3 → Nat :=
  let arg0 : BitVec 32 := BitVec.ofNat 32 (i 0).val
  let v2016 : Index := Scalar.indexCast arg0
  let c4_665 : Index := 4#32
  let c3072_666 : Index := 3072#32
  ![v2016.toNat, 4, 3072]
def k0_off220 (i : grid0.Coords) : Fin 3 → Nat :=
  let arg0 : BitVec 32 := BitVec.ofNat 32 (i 0).val
  let v2024 : Index := Scalar.indexCast arg0
  let c5_667 : Index := 5#32
  let c3072_668 : Index := 3072#32
  ![v2024.toNat, 5, 3072]
def k0_off221 (i : grid0.Coords) : Fin 3 → Nat :=
  let arg0 : BitVec 32 := BitVec.ofNat 32 (i 0).val
  let v2032 : Index := Scalar.indexCast arg0
  let c6_669 : Index := 6#32
  let c3072_670 : Index := 3072#32
  ![v2032.toNat, 6, 3072]
def k0_off222 (i : grid0.Coords) : Fin 3 → Nat :=
  let arg0 : BitVec 32 := BitVec.ofNat 32 (i 0).val
  let v2040 : Index := Scalar.indexCast arg0
  let c7_671 : Index := 7#32
  let c3072_672 : Index := 3072#32
  ![v2040.toNat, 7, 3072]
def k0_off223 (i : grid0.Coords) : Fin 3 → Nat :=
  let arg0 : BitVec 32 := BitVec.ofNat 32 (i 0).val
  let v2052 : Index := Scalar.indexCast arg0
  let c4_677 : Index := 4#32
  let c3200_678 : Index := 3200#32
  ![v2052.toNat, 4, 3200]
def k0_off224 (i : grid0.Coords) : Fin 3 → Nat :=
  let arg0 : BitVec 32 := BitVec.ofNat 32 (i 0).val
  let v2060 : Index := Scalar.indexCast arg0
  let c5_679 : Index := 5#32
  let c3200_680 : Index := 3200#32
  ![v2060.toNat, 5, 3200]
def k0_off225 (i : grid0.Coords) : Fin 3 → Nat :=
  let arg0 : BitVec 32 := BitVec.ofNat 32 (i 0).val
  let v2068 : Index := Scalar.indexCast arg0
  let c6_681 : Index := 6#32
  let c3200_682 : Index := 3200#32
  ![v2068.toNat, 6, 3200]
def k0_off226 (i : grid0.Coords) : Fin 3 → Nat :=
  let arg0 : BitVec 32 := BitVec.ofNat 32 (i 0).val
  let v2076 : Index := Scalar.indexCast arg0
  let c7_683 : Index := 7#32
  let c3200_684 : Index := 3200#32
  ![v2076.toNat, 7, 3200]
def k0_off227 (i : grid0.Coords) : Fin 3 → Nat :=
  let arg0 : BitVec 32 := BitVec.ofNat 32 (i 0).val
  let v2088 : Index := Scalar.indexCast arg0
  let c4_689 : Index := 4#32
  let c3328_690 : Index := 3328#32
  ![v2088.toNat, 4, 3328]
def k0_off228 (i : grid0.Coords) : Fin 3 → Nat :=
  let arg0 : BitVec 32 := BitVec.ofNat 32 (i 0).val
  let v2096 : Index := Scalar.indexCast arg0
  let c5_691 : Index := 5#32
  let c3328_692 : Index := 3328#32
  ![v2096.toNat, 5, 3328]
def k0_off229 (i : grid0.Coords) : Fin 3 → Nat :=
  let arg0 : BitVec 32 := BitVec.ofNat 32 (i 0).val
  let v2104 : Index := Scalar.indexCast arg0
  let c6_693 : Index := 6#32
  let c3328_694 : Index := 3328#32
  ![v2104.toNat, 6, 3328]
def k0_off230 (i : grid0.Coords) : Fin 3 → Nat :=
  let arg0 : BitVec 32 := BitVec.ofNat 32 (i 0).val
  let v2112 : Index := Scalar.indexCast arg0
  let c7_695 : Index := 7#32
  let c3328_696 : Index := 3328#32
  ![v2112.toNat, 7, 3328]
def k0_off231 (i : grid0.Coords) : Fin 3 → Nat :=
  let arg0 : BitVec 32 := BitVec.ofNat 32 (i 0).val
  let v2124 : Index := Scalar.indexCast arg0
  let c4_701 : Index := 4#32
  let c3456_702 : Index := 3456#32
  ![v2124.toNat, 4, 3456]
def k0_off232 (i : grid0.Coords) : Fin 3 → Nat :=
  let arg0 : BitVec 32 := BitVec.ofNat 32 (i 0).val
  let v2132 : Index := Scalar.indexCast arg0
  let c5_703 : Index := 5#32
  let c3456_704 : Index := 3456#32
  ![v2132.toNat, 5, 3456]
def k0_off233 (i : grid0.Coords) : Fin 3 → Nat :=
  let arg0 : BitVec 32 := BitVec.ofNat 32 (i 0).val
  let v2140 : Index := Scalar.indexCast arg0
  let c6_705 : Index := 6#32
  let c3456_706 : Index := 3456#32
  ![v2140.toNat, 6, 3456]
def k0_off234 (i : grid0.Coords) : Fin 3 → Nat :=
  let arg0 : BitVec 32 := BitVec.ofNat 32 (i 0).val
  let v2148 : Index := Scalar.indexCast arg0
  let c7_707 : Index := 7#32
  let c3456_708 : Index := 3456#32
  ![v2148.toNat, 7, 3456]
def k0_off235 (i : grid0.Coords) : Fin 3 → Nat :=
  let arg0 : BitVec 32 := BitVec.ofNat 32 (i 0).val
  let v2160 : Index := Scalar.indexCast arg0
  let c4_713 : Index := 4#32
  let c3584_714 : Index := 3584#32
  ![v2160.toNat, 4, 3584]
def k0_off236 (i : grid0.Coords) : Fin 3 → Nat :=
  let arg0 : BitVec 32 := BitVec.ofNat 32 (i 0).val
  let v2168 : Index := Scalar.indexCast arg0
  let c5_715 : Index := 5#32
  let c3584_716 : Index := 3584#32
  ![v2168.toNat, 5, 3584]
def k0_off237 (i : grid0.Coords) : Fin 3 → Nat :=
  let arg0 : BitVec 32 := BitVec.ofNat 32 (i 0).val
  let v2176 : Index := Scalar.indexCast arg0
  let c6_717 : Index := 6#32
  let c3584_718 : Index := 3584#32
  ![v2176.toNat, 6, 3584]
def k0_off238 (i : grid0.Coords) : Fin 3 → Nat :=
  let arg0 : BitVec 32 := BitVec.ofNat 32 (i 0).val
  let v2184 : Index := Scalar.indexCast arg0
  let c7_719 : Index := 7#32
  let c3584_720 : Index := 3584#32
  ![v2184.toNat, 7, 3584]
def k0_off239 (i : grid0.Coords) : Fin 3 → Nat :=
  let arg0 : BitVec 32 := BitVec.ofNat 32 (i 0).val
  let v2196 : Index := Scalar.indexCast arg0
  let c4_725 : Index := 4#32
  let c3712_726 : Index := 3712#32
  ![v2196.toNat, 4, 3712]
def k0_off240 (i : grid0.Coords) : Fin 3 → Nat :=
  let arg0 : BitVec 32 := BitVec.ofNat 32 (i 0).val
  let v2204 : Index := Scalar.indexCast arg0
  let c5_727 : Index := 5#32
  let c3712_728 : Index := 3712#32
  ![v2204.toNat, 5, 3712]
def k0_off241 (i : grid0.Coords) : Fin 3 → Nat :=
  let arg0 : BitVec 32 := BitVec.ofNat 32 (i 0).val
  let v2212 : Index := Scalar.indexCast arg0
  let c6_729 : Index := 6#32
  let c3712_730 : Index := 3712#32
  ![v2212.toNat, 6, 3712]
def k0_off242 (i : grid0.Coords) : Fin 3 → Nat :=
  let arg0 : BitVec 32 := BitVec.ofNat 32 (i 0).val
  let v2220 : Index := Scalar.indexCast arg0
  let c7_731 : Index := 7#32
  let c3712_732 : Index := 3712#32
  ![v2220.toNat, 7, 3712]
def k0_cond2 (i : grid0.Coords) : BitVec 1 :=
  let arg0 : BitVec 32 := BitVec.ofNat 32 (i 0).val
  let c6_i32 : BitVec 32 := 6#32
  let v2231 : BitVec 1 := Scalar.cmpi .eq arg0 c6_i32
  let v2232 : BitVec 32 := Scalar.extui v2231
  let c0_i32_735 : BitVec 32 := 0#32
  let v2233 : BitVec 1 := Scalar.cmpi .ne v2232 c0_i32_735
  v2233

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3840 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x1x7168 : Shape := ⟨3, ![8, 1, 7168]⟩
abbrev S7168x3840 : Shape := ⟨2, ![7168, 3840]⟩
abbrev S56x30 : Shape := ⟨2, ![56, 30]⟩
abbrev S8x7168 : Shape := ⟨2, ![8, 7168]⟩
abbrev S8x3840 : Shape := ⟨2, ![8, 3840]⟩
abbrev S8x1x56 : Shape := ⟨3, ![8, 1, 56]⟩
abbrev S8x56x128 : Shape := ⟨3, ![8, 56, 128]⟩
abbrev S8x56 : Shape := ⟨2, ![8, 56]⟩
abbrev S8x56x1 : Shape := ⟨3, ![8, 56, 1]⟩
abbrev S56x128x3840 : Shape := ⟨3, ![56, 128, 3840]⟩
abbrev S56x8x3840 : Shape := ⟨3, ![56, 8, 3840]⟩
abbrev S56x30x1 : Shape := ⟨3, ![56, 30, 1]⟩
abbrev S56x30x128 : Shape := ⟨3, ![56, 30, 128]⟩
abbrev S56x3840 : Shape := ⟨2, ![56, 3840]⟩
abbrev S56x8 : Shape := ⟨2, ![56, 8]⟩
abbrev S56x8x1 : Shape := ⟨3, ![56, 8, 1]⟩
abbrev S56x1x3840 : Shape := ⟨3, ![56, 1, 3840]⟩

abbrev nBuf : Space → Nat
  | .hbm => 7
  | .vmem => 6
  | .smem => 0
  | _ => 0

abbrev bufTy : (tb : Table) → Fin (tcTables nBuf tb) → BufTy
  | .hbm, ⟨0, _⟩ => ⟨S8x1x7168, .bf16⟩
  | .hbm, ⟨1, _⟩ => ⟨S7168x3840, .fp8e4m3⟩
  | .hbm, ⟨2, _⟩ => ⟨S56x30, .f32⟩
  | .hbm, ⟨3, _⟩ => ⟨S8x7168, .bf16⟩
  | .hbm, ⟨4, _⟩ => ⟨S8x3840, .bf16⟩
  | .hbm, ⟨5, _⟩ => ⟨S8x7168, .fp8e4m3⟩
  | .hbm, ⟨6, _⟩ => ⟨S8x1x56, .f32⟩
  | .local _ .vmem, ⟨0, _⟩ => ⟨S8x7168, .bf16⟩
  | .local _ .vmem, ⟨1, _⟩ => ⟨S7168x3840, .fp8e4m3⟩
  | .local _ .vmem, ⟨2, _⟩ => ⟨S56x30, .f32⟩
  | .local _ .vmem, ⟨3, _⟩ => ⟨S8x3840, .bf16⟩
  | .local _ .vmem, ⟨4, _⟩ => ⟨S8x7168, .fp8e4m3⟩
  | .local _ .vmem, ⟨5, _⟩ => ⟨S8x1x56, .f32⟩
  | _, _ => ⟨S8x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Phases.lean ====
/- The kernel body in its three phases: what only the first point does (quantise, expand the weight scales, clear the
   accumulator), what every point does (accumulate), and what only the last point does (store the result). -/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Tactic
public import Idealize.ShloMosaic.Lib.WordCmp

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point does before accumulating. -/
noncomputable def progQ (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    Prog (TpuEff nD τ sig (Elt F) Λ₀ .tc) PUnit := do
  let ⟨v2234, v2259, v2266, v4646, v4675, v4684, cst_1709, v4685⟩ : Σ' (v2234 : IVec S8x128 32) (v2259 : IVec S32x128 32) (v2266 : FVec F S8x252 .f32) (v4646 : FVec F S8x128 .f32) (v4675 : IVec S8x1 32) (v4684 : FVec F S8x128 .f32) (cst_1709 : F .f32), FVec F S8x128 .f32 ← k0_part124 i arg1 harg1 arg2 harg2 arg3 harg3 arg4 harg4 arg5 harg5 arg6 harg6 arg7 harg7 arg8 harg8 arg9 harg9 arg10 harg10
  let ⟨v6081, v6890, v6894⟩ : Σ' (v6081 : FVec F S56x30 .f32) (v6890 : FVec F S56x128 .f32), FVec F S1x8x128 .f32 ← k0_part125 i arg1 harg1 arg2 harg2 arg3 harg3 arg4 harg4 arg5 harg5 arg6 harg6 arg7 harg7 arg8 harg8 arg9 harg9 arg10 harg10 v2234 v2259 v2266 v4646 v4675 v4684 cst_1709 v4685
  let v6921 : FVec F S56x128 .f32 ← k0_part121 i arg1 harg1 arg2 harg2 arg3 harg3 arg4 harg4 arg5 harg5 arg6 harg6 arg7 harg7 arg8 harg8 arg9 harg9 arg10 harg10 v6081 v6890 v6894
  let ⟨v6952, v6957⟩ : Σ' (v6952 : FVec F S56x128 .f32), FVec F S8x128 .f32 ← k0_part122 i arg1 harg1 arg2 harg2 arg3 harg3 arg4 harg4 arg5 harg5 arg6 harg6 arg7 harg7 arg8 harg8 arg9 harg9 arg10 harg10 v6081 v6921
  let ⟨v6983, v6988⟩ : Σ' (v6983 : FVec F S56x128 .f32), FVec F S8x128 .f32 ← k0_part123 i arg1 harg1 arg2 harg2 arg3 harg3 arg4 harg4 arg5 harg5 arg6 harg6 arg7 harg7 arg8 harg8 arg9 harg9 arg10 harg10 v6081 v6952 v6957
  let v6989 : Vec F S1x8x128 .f32 ← Prog.lift (.load arg9 (Rect.unit (s := S7x8x3840) ![1, 0, 3712] S1x8x128.size inb_S7x8x3840_S1x8x128_1_0_3712).toLoadRect (View.loadsAt_vmem h_S1x8x128))
  Prog.lift (.store arg9 (Rect.unit (s := S7x8x3840) ![1, 0, 3712] S1x8x128.size inb_S7x8x3840_S1x8x128_1_0_3712) (k0_pay918 v6988) Finset.univ (View.stores_vmem_bits_univ h_S1x8x128 rfl) (.inl rfl))
  let v6993 : Vec F S1x8x128 .f32 ← Prog.lift (.load arg9 (Rect.unit (s := S7x8x3840) ![2, 0, 3712] S1x8x128.size inb_S7x8x3840_S1x8x128_2_0_3712).toLoadRect (View.loadsAt_vmem h_S1x8x128))
  Prog.lift (.store arg9 (Rect.unit (s := S7x8x3840) ![2, 0, 3712] S1x8x128.size inb_S7x8x3840_S1x8x128_2_0_3712) (k0_pay919 v6983) Finset.univ (View.stores_vmem_bits_univ h_S1x8x128 rfl) (.inl rfl))
  let v6997 : Vec F S1x8x128 .f32 ← Prog.lift (.load arg9 (Rect.unit (s := S7x8x3840) ![3, 0, 3712] S1x8x128.size inb_S7x8x3840_S1x8x128_3_0_3712).toLoadRect (View.loadsAt_vmem h_S1x8x128))
  Prog.lift (.store arg9 (Rect.unit (s := S7x8x3840) ![3, 0, 3712] S1x8x128.size inb_S7x8x3840_S1x8x128_3_0_3712) (k0_pay920 v6983) Finset.univ (View.stores_vmem_bits_univ h_S1x8x128 rfl) (.inl rfl))
  let v7001 : Vec F S1x8x128 .f32 ← Prog.lift (.load arg9 (Rect.unit (s := S7x8x3840) ![4, 0, 3712] S1x8x128.size inb_S7x8x3840_S1x8x128_4_0_3712).toLoadRect (View.loadsAt_vmem h_S1x8x128))
  Prog.lift (.store arg9 (Rect.unit (s := S7x8x3840) ![4, 0, 3712] S1x8x128.size inb_S7x8x3840_S1x8x128_4_0_3712) (k0_pay921 v6983) Finset.univ (View.stores_vmem_bits_univ h_S1x8x128 rfl) (.inl rfl))
  let v7005 : Vec F S1x8x128 .f32 ← Prog.lift (.load arg9 (Rect.unit (s := S7x8x3840) ![5, 0, 3712] S1x8x128.size inb_S7x8x3840_S1x8x128_5_0_3712).toLoadRect (View.loadsAt_vmem h_S1x8x128))
  Prog.lift (.store arg9 (Rect.unit (s := S7x8x3840) ![5, 0, 3712] S1x8x128.size inb_S7x8x3840_S1x8x128_5_0_3712) (k0_pay922 v6983) Finset.univ (View.stores_vmem_bits_univ h_S1x8x128 rfl) (.inl rfl))
  let v7009 : Vec F S1x8x128 .f32 ← Prog.lift (.load arg9 (Rect.unit (s := S7x8x3840) ![6, 0, 3712] S1x8x128.size inb_S7x8x3840_S1x8x128_6_0_3712).toLoadRect (View.loadsAt_vmem h_S1x8x128))
  Prog.lift (.store arg9 (Rect.unit (s := S7x8x3840) ![6, 0, 3712] S1x8x128.size inb_S7x8x3840_S1x8x128_6_0_3712) (k0_pay923 v6983) Finset.univ (View.stores_vmem_bits_univ h_S1x8x128 rfl) (.inl rfl))
  let v7013 : Vec F S8x3840 .f32 ← Prog.lift (.load arg10 (Rect.unit (s := S8x3840) ![0, 0] S8x3840.size inb_S8x3840_S8x3840_0_0).toLoadRect (View.loadsAt_vmem h_S8x3840))
  Prog.lift (.store arg10 (Rect.unit (s := S8x3840) ![0, 0] S8x3840.size inb_S8x3840_S8x3840_0_0) (k0_pay924 (F := F)) Finset.univ (View.stores_vmem_bits_univ h_S8x3840 rfl) (.inl rfl))
  pure ⟨⟩

/-- The head of the accumulation: its first loads. -/
noncomputable def progM1 (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    Prog (TpuEff nD τ sig (Elt F) Λ₀ .tc) (Σ' (arg0 : BitVec 32) (v7 : Vec F S32x512 .fp8e4m3) (v14 : Vec F S8x128 .f32) (v18 : Vec F S8x128 .f32) (v22 : Vec F S8x128 .f32) (v26 : Vec F S8x128 .f32) (v28 : FVec F S32x768 .f32) (v29 : Vec F S8x128 .f32) (v32 : FVec F S1x128 .f32), FVec F S8x128 .f32) := do
  let arg0 : BitVec 32 := BitVec.ofNat 32 (i 0).val
  let v7 : Vec F S32x512 .fp8e4m3 ← Prog.lift (.load arg7 (Rect.unit (s := S32x7168) (k0_off1 i 0#32) S32x512.size (k0_off1_inb i 0)).toLoadRect (View.loadsAt_vmem h_S32x512))
  let v14 : Vec F S8x128 .f32 ← Prog.lift (.load arg8 (Rect.unit (s := S448x128) (k0_off2 i 0#32 0#32) S8x128.size (k0_off2_inb i 0 0)).toLoadRect (View.loadsAt_vmem h_S8x128))
  let v18 : Vec F S8x128 .f32 ← Prog.lift (.load arg8 (Rect.unit (s := S448x128) (k0_off2 i 0#32 8#32) S8x128.size (k0_off2_inb i 0 1)).toLoadRect (View.loadsAt_vmem h_S8x128))
  let v22 : Vec F S8x128 .f32 ← Prog.lift (.load arg8 (Rect.unit (s := S448x128) (k0_off2 i 0#32 16#32) S8x128.size (k0_off2_inb i 0 2)).toLoadRect (View.loadsAt_vmem h_S8x128))
  let v26 : Vec F S8x128 .f32 ← Prog.lift (.load arg8 (Rect.unit (s := S448x128) (k0_off2 i 0#32 24#32) S8x128.size (k0_off2_inb i 0 3)).toLoadRect (View.loadsAt_vmem h_S8x128))
  let v27 : Vec F S512x768 .fp8e4m3 ← Prog.lift (.load arg2 (Rect.unit (s := S1024x3840) ![0, 0] S512x768.size inb_S1024x3840_S512x768_0_0).toLoadRect (View.loadsAt_vmem h_S512x768))
  let v29 : Vec F S8x128 .f32 ← Prog.lift (.load arg10 (Rect.unit (s := S8x3840) ![0, 0] S8x128.size inb_S8x3840_S8x128_0_0).toLoadRect (View.loadsAt_vmem h_S8x128))
  let v31 : Vec F S1x1x128 .f32 ← Prog.lift (.load arg9 (Rect.unit (s := S7x8x3840) (k0_off3 i) S1x1x128.size (k0_off3_inb i)).toLoadRect (View.loadsAt_vmem h_S1x1x128))
  pure ⟨arg0, v7, v14, v18, v22, v26, k0_pay925 v7 v27, v29, k0_pay926 v31, k0_pay927 v7 v14 v27⟩

/-- The accumulation up to its last store. -/
noncomputable def progM2 (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    Prog (TpuEff nD τ sig (Elt F) Λ₀ .tc) (Σ' (arg0 : BitVec 32), FVec F S8x128 .f32) := do
  let ⟨arg0, v7, v14, v18, v22, v26, v28, v29, v32, v34⟩ : Σ' (arg0 : BitVec 32) (v7 : Vec F S32x512 .fp8e4m3) (v14 : Vec F S8x128 .f32) (v18 : Vec F S8x128 .f32) (v22 : Vec F S8x128 .f32) (v26 : Vec F S8x128 .f32) (v28 : FVec F S32x768 .f32) (v29 : Vec F S8x128 .f32) (v32 : FVec F S1x128 .f32), FVec F S8x128 .f32 ← progM1 i arg1 harg1 arg2 harg2 arg3 harg3 arg4 harg4 arg5 harg5 arg6 harg6 arg7 harg7 arg8 harg8 arg9 harg9 arg10 harg10
  let ⟨v73, v78, v79⟩ : Σ' (v73 : FVec F S8x128 .f32) (v78 : FVec F S8x128 .f32), FVec F S8x128 .f32 ← k0_part127 i arg1 harg1 arg2 harg2 arg3 harg3 arg4 harg4 arg5 harg5 arg6 harg6 arg7 harg7 arg8 harg8 arg9 harg9 arg10 harg10 arg0 v14 v18 v22 v26 v28 v29 v32 v34
  let ⟨v117, v124⟩ : Σ' (v117 : FVec F S8x128 .f32), FVec F S8x128 .f32 ← k0_part128 i arg1 harg1 arg2 harg2 arg3 harg3 arg4 harg4 arg5 harg5 arg6 harg6 arg7 harg7 arg8 harg8 arg9 harg9 arg10 harg10 arg0 v14 v18 v22 v26 v28 v73 v78 v79
  let v169 : FVec F S8x128 .f32 ← k0_part129 i arg1 harg1 arg2 harg2 arg3 harg3 arg4 harg4 arg5 harg5 arg6 harg6 arg7 harg7 arg8 harg8 arg9 harg9 arg10 harg10 arg0 v14 v18 v22 v26 v28 v117 v124
  let v209 : Vec F S8x128 .f32 ← k0_part130 i arg1 harg1 arg2 harg2 arg3 harg3 arg4 harg4 arg5 harg5 arg6 harg6 arg7 harg7 arg8 harg8 arg9 harg9 arg10 harg10 arg0 v14 v18 v22 v26 v28 v169
  let ⟨v246, v247, v252, v253⟩ : Σ' (v246 : FVec F S32x768 .f32) (v247 : Vec F S8x128 .f32) (v252 : FVec F S8x128 .f32), FVec F S8x128 .f32 ← k0_part131 i arg1 harg1 arg2 harg2 arg3 harg3 arg4 harg4 arg5 harg5 arg6 harg6 arg7 harg7 arg8 harg8 arg9 harg9 arg10 harg10 arg0 v7 v14 v18 v22 v26 v28 v209
  let ⟨v291, v298⟩ : Σ' (v291 : FVec F S8x128 .f32), FVec F S8x128 .f32 ← k0_part132 i arg1 harg1 arg2 harg2 arg3 harg3 arg4 harg4 arg5 harg5 arg6 harg6 arg7 harg7 arg8 harg8 arg9 harg9 arg10 harg10 arg0 v14 v18 v22 v26 v246 v247 v252 v253
  let v343 : FVec F S8x128 .f32 ← k0_part133 i arg1 harg1 arg2 harg2 arg3 harg3 arg4 harg4 arg5 harg5 arg6 harg6 arg7 harg7 arg8 harg8 arg9 harg9 arg10 harg10 arg0 v14 v18 v22 v26 v246 v291 v298
  let v387 : FVec F S8x128 .f32 ← k0_part134 i arg1 harg1 arg2 harg2 arg3 harg3 arg4 harg4 arg5 harg5 arg6 harg6 arg7 harg7 arg8 harg8 arg9 harg9 arg10 harg10 arg0 v14 v18 v22 v26 v246 v343
  let v427 : Vec F S8x128 .f32 ← k0_part135 i arg1 harg1 arg2 harg2 arg3 harg3 arg4 harg4 arg5 harg5 arg6 harg6 arg7 harg7 arg8 harg8 arg9 harg9 arg10 harg10 arg0 v14 v18 v22 v26 v246 v387
  let ⟨v464, v465, v472⟩ : Σ' (v464 : FVec F S32x768 .f32) (v465 : Vec F S8x128 .f32), FVec F S8x128 .f32 ← k0_part136 i arg1 harg1 arg2 harg2 arg3 harg3 arg4 harg4 arg5 harg5 arg6 harg6 arg7 harg7 arg8 harg8 arg9 harg9 arg10 harg10 arg0 v7 v14 v18 v22 v26 v246 v427
  let v517 : FVec F S8x128 .f32 ← k0_part137 i arg1 harg1 arg2 harg2 arg3 harg3 arg4 harg4 arg5 harg5 arg6 harg6 arg7 harg7 arg8 harg8 arg9 harg9 arg10 harg10 arg0 v14 v18 v22 v26 v464 v465 v472
  let v561 : FVec F S8x128 .f32 ← k0_part138 i arg1 harg1 arg2 harg2 arg3 harg3 arg4 harg4 arg5 harg5 arg6 harg6 arg7 harg7 arg8 harg8 arg9 harg9 arg10 harg10 arg0 v14 v18 v22 v26 v464 v517
  let v605 : FVec F S8x128 .f32 ← k0_part139 i arg1 harg1 arg2 harg2 arg3 harg3 arg4 harg4 arg5 harg5 arg6 harg6 arg7 harg7 arg8 harg8 arg9 harg9 arg10 harg10 arg0 v14 v18 v22 v26 v464 v561
  let ⟨v645, v647⟩ : Σ' (v645 : Vec F S8x128 .f32), Vec F S1x1x128 .f32 ← k0_part140 i arg1 harg1 arg2 harg2 arg3 harg3 arg4 harg4 arg5 harg5 arg6 harg6 arg7 harg7 arg8 harg8 arg9 harg9 arg10 harg10 arg0 v14 v18 v22 v26 v464 v605
  let ⟨v682, v691⟩ : Σ' (v682 : FVec F S32x768 .f32), FVec F S8x128 .f32 ← k0_part141 i arg1 harg1 arg2 harg2 arg3 harg3 arg4 harg4 arg5 harg5 arg6 harg6 arg7 harg7 arg8 harg8 arg9 harg9 arg10 harg10 arg0 v7 v14 v18 v22 v26 v464 v645 v647
  let v735 : FVec F S8x128 .f32 ← k0_part142 i arg1 harg1 arg2 harg2 arg3 harg3 arg4 harg4 arg5 harg5 arg6 harg6 arg7 harg7 arg8 harg8 arg9 harg9 arg10 harg10 arg0 v14 v18 v22 v26 v682 v691
  let v779 : FVec F S8x128 .f32 ← k0_part143 i arg1 harg1 arg2 harg2 arg3 harg3 arg4 harg4 arg5 harg5 arg6 harg6 arg7 harg7 arg8 harg8 arg9 harg9 arg10 harg10 arg0 v14 v18 v22 v26 v682 v735
  let ⟨v823, v824⟩ : Σ' (v823 : FVec F S8x128 .f32), Vec F S8x128 .f32 ← k0_part144 i arg1 harg1 arg2 harg2 arg3 harg3 arg4 harg4 arg5 harg5 arg6 harg6 arg7 harg7 arg8 harg8 arg9 harg9 arg10 harg10 arg0 v14 v18 v22 v26 v682 v779
  let ⟨v863, v866⟩ : Σ' (v863 : Vec F S8x128 .f32), FVec F S1x128 .f32 ← k0_part145 i arg1 harg1 arg2 harg2 arg3 harg3 arg4 harg4 arg5 harg5 arg6 harg6 arg7 harg7 arg8 harg8 arg9 harg9 arg10 harg10 arg0 v14 v18 v22 v26 v682 v823 v824
  let ⟨v900, v909⟩ : Σ' (v900 : FVec F S32x768 .f32), FVec F S8x128 .f32 ← k0_part146 i arg1 harg1 arg2 harg2 arg3 harg3 arg4 harg4 arg5 harg5 arg6 harg6 arg7 harg7 arg8 harg8 arg9 harg9 arg10 harg10 arg0 v7 v14 v18 v22 v26 v682 v863 v866
  let v953 : FVec F S8x128 .f32 ← k0_part147 i arg1 harg1 arg2 harg2 arg3 harg3 arg4 harg4 arg5 harg5 arg6 harg6 arg7 harg7 arg8 harg8 arg9 harg9 arg10 harg10 arg0 v14 v18 v22 v26 v900 v909
  let v997 : FVec F S8x128 .f32 ← k0_part148 i arg1 harg1 arg2 harg2 arg3 harg3 arg4 harg4 arg5 harg5 arg6 harg6 arg7 harg7 arg8 harg8 arg9 harg9 arg10 harg10 arg0 v14 v18 v22 v26 v900 v953
  let v1041 : FVec F S8x128 .f32 ← k0_part149 i arg1 harg1 arg2 harg2 arg3 harg3 arg4 harg4 arg5 harg5 arg6 harg6 arg7 harg7 arg8 harg8 arg9 harg9 arg10 harg10 arg0 v14 v18 v22 v26 v900 v997
  let ⟨v1081, v1084, v1085⟩ : Σ' (v1081 : Vec F S8x128 .f32) (v1084 : FVec F S1x128 .f32), FVec F S8x128 .f32 ← k0_part150 i arg1 harg1 arg2 harg2 arg3 harg3 arg4 harg4 arg5 harg5 arg6 harg6 arg7 harg7 arg8 harg8 arg9 harg9 arg10 harg10 arg0 v14 v18 v22 v26 v900 v1041
  let ⟨v1121, v1124, v1128⟩ : Σ' (v1121 : Vec F S32x512 .fp8e4m3) (v1124 : BitVec 32), Vec F S8x128 .f32 ← k0_part151 i arg1 harg1 arg2 harg2 arg3 harg3 arg4 harg4 arg5 harg5 arg6 harg6 arg7 harg7 arg8 harg8 arg9 harg9 arg10 harg10 arg0 v14 v18 v22 v26 v900 v1081 v1084 v1085
  let ⟨v1132, v1136, v1140, v1142, v1167, v1169⟩ : Σ' (v1132 : Vec F S8x128 .f32) (v1136 : Vec F S8x128 .f32) (v1140 : Vec F S8x128 .f32) (v1142 : FVec F S32x768 .f32) (v1167 : FVec F S8x128 .f32), Vec F S1x1x128 .f32 ← k0_part152 i arg1 harg1 arg2 harg2 arg3 harg3 arg4 harg4 arg5 harg5 arg6 harg6 arg7 harg7 arg8 harg8 arg9 harg9 arg10 harg10 arg0 v1121 v1124 v1128
  let v1214 : FVec F S8x128 .f32 ← k0_part153 i arg1 harg1 arg2 harg2 arg3 harg3 arg4 harg4 arg5 harg5 arg6 harg6 arg7 harg7 arg8 harg8 arg9 harg9 arg10 harg10 arg0 v1128 v1132 v1136 v1140 v1142 v1167 v1169
  let ⟨v1251, v1254, v1256⟩ : Σ' (v1251 : Vec F S8x128 .f32) (v1254 : FVec F S1x128 .f32), FVec F S8x128 .f32 ← k0_part154 i arg1 harg1 arg2 harg2 arg3 harg3 arg4 harg4 arg5 harg5 arg6 harg6 arg7 harg7 arg8 harg8 arg9 harg9 arg10 harg10 arg0 v1128 v1132 v1136 v1140 v1142 v1214
  let ⟨v1295, v1300, v1301⟩ : Σ' (v1295 : FVec F S8x128 .f32) (v1300 : FVec F S8x128 .f32), FVec F S8x128 .f32 ← k0_part155 i arg1 harg1 arg2 harg2 arg3 harg3 arg4 harg4 arg5 harg5 arg6 harg6 arg7 harg7 arg8 harg8 arg9 harg9 arg10 harg10 arg0 v1128 v1132 v1136 v1140 v1142 v1251 v1254 v1256
  let ⟨v1339, v1346⟩ : Σ' (v1339 : FVec F S8x128 .f32), FVec F S8x128 .f32 ← k0_part156 i arg1 harg1 arg2 harg2 arg3 harg3 arg4 harg4 arg5 harg5 arg6 harg6 arg7 harg7 arg8 harg8 arg9 harg9 arg10 harg10 arg0 v1128 v1132 v1136 v1140 v1142 v1295 v1300 v1301
  let ⟨v1360, v1385, v1388⟩ : Σ' (v1360 : FVec F S32x768 .f32) (v1385 : FVec F S8x128 .f32), FVec F S1x128 .f32 ← k0_part157 i arg1 harg1 arg2 harg2 arg3 harg3 arg4 harg4 arg5 harg5 arg6 harg6 arg7 harg7 arg8 harg8 arg9 harg9 arg10 harg10 arg0 v1121 v1128 v1132 v1136 v1140 v1142 v1339 v1346
  k0_part158 i arg1 harg1 arg2 harg2 arg3 harg3 arg4 harg4 arg5 harg5 arg6 harg6 arg7 harg7 arg8 harg8 arg9 harg9 arg10 harg10 arg0 v1128 v1132 v1136 v1140 v1360 v1385 v1388
  let ⟨v1469, v1474, v1475⟩ : Σ' (v1469 : Vec F S8x128 .f32) (v1474 : FVec F S8x128 .f32), FVec F S8x128 .f32 ← k0_part159 i arg1 harg1 arg2 harg2 arg3 harg3 arg4 harg4 arg5 harg5 arg6 harg6 arg7 harg7 arg8 harg8 arg9 harg9 arg10 harg10 arg0 v1128 v1132 v1136 v1140 v1360
  let ⟨v1513, v1520⟩ : Σ' (v1513 : FVec F S8x128 .f32), FVec F S8x128 .f32 ← k0_part160 i arg1 harg1 arg2 harg2 arg3 harg3 arg4 harg4 arg5 harg5 arg6 harg6 arg7 harg7 arg8 harg8 arg9 harg9 arg10 harg10 arg0 v1128 v1132 v1136 v1140 v1360 v1469 v1474 v1475
  let v1565 : FVec F S8x128 .f32 ← k0_part161 i arg1 harg1 arg2 harg2 arg3 harg3 arg4 harg4 arg5 harg5 arg6 harg6 arg7 harg7 arg8 harg8 arg9 harg9 arg10 harg10 arg0 v1128 v1132 v1136 v1140 v1360 v1513 v1520
  let ⟨v1578, v1603, v1606, v1607⟩ : Σ' (v1578 : FVec F S32x768 .f32) (v1603 : FVec F S8x128 .f32) (v1606 : FVec F S1x128 .f32), FVec F S8x128 .f32 ← k0_part162 i arg1 harg1 arg2 harg2 arg3 harg3 arg4 harg4 arg5 harg5 arg6 harg6 arg7 harg7 arg8 harg8 arg9 harg9 arg10 harg10 arg0 v1121 v1128 v1132 v1136 v1140 v1360 v1565
  k0_part163 i arg1 harg1 arg2 harg2 arg3 harg3 arg4 harg4 arg5 harg5 arg6 harg6 arg7 harg7 arg8 harg8 arg9 harg9 arg10 harg10 arg0 v1128 v1132 v1136 v1140 v1578 v1603 v1606 v1607
  let ⟨v1687, v1694⟩ : Σ' (v1687 : Vec F S8x128 .f32), FVec F S8x128 .f32 ← k0_part164 i arg1 harg1 arg2 harg2 arg3 harg3 arg4 harg4 arg5 harg5 arg6 harg6 arg7 harg7 arg8 harg8 arg9 harg9 arg10 harg10 arg0 v1128 v1132 v1136 v1140 v1578
  let v1739 : FVec F S8x128 .f32 ← k0_part165 i arg1 harg1 arg2 harg2 arg3 harg3 arg4 harg4 arg5 harg5 arg6 harg6 arg7 harg7 arg8 harg8 arg9 harg9 arg10 harg10 arg0 v1128 v1132 v1136 v1140 v1578 v1687 v1694
  let v1783 : FVec F S8x128 .f32 ← k0_part166 i arg1 harg1 arg2 harg2 arg3 harg3 arg4 harg4 arg5 harg5 arg6 harg6 arg7 harg7 arg8 harg8 arg9 harg9 arg10 harg10 arg0 v1128 v1132 v1136 v1140 v1578 v1739
  let ⟨v1796, v1821, v1824, v1826⟩ : Σ' (v1796 : FVec F S32x768 .f32) (v1821 : FVec F S8x128 .f32) (v1824 : FVec F S1x128 .f32), FVec F S8x128 .f32 ← k0_part167 i arg1 harg1 arg2 harg2 arg3 harg3 arg4 harg4 arg5 harg5 arg6 harg6 arg7 harg7 arg8 harg8 arg9 harg9 arg10 harg10 arg0 v1121 v1128 v1132 v1136 v1140 v1578 v1783
  k0_part168 i arg1 harg1 arg2 harg2 arg3 harg3 arg4 harg4 arg5 harg5 arg6 harg6 arg7 harg7 arg8 harg8 arg9 harg9 arg10 harg10 arg0 v1128 v1132 v1136 v1140 v1796 v1821 v1824 v1826
  let v1913 : FVec F S8x128 .f32 ← k0_part169 i arg1 harg1 arg2 harg2 arg3 harg3 arg4 harg4 arg5 harg5 arg6 harg6 arg7 harg7 arg8 harg8 arg9 harg9 arg10 harg10 arg0 v1128 v1132 v1136 v1140 v1796
  let v1957 : FVec F S8x128 .f32 ← k0_part170 i arg1 harg1 arg2 harg2 arg3 harg3 arg4 harg4 arg5 harg5 arg6 harg6 arg7 harg7 arg8 harg8 arg9 harg9 arg10 harg10 arg0 v1128 v1132 v1136 v1140 v1796 v1913
  let v2001 : FVec F S8x128 .f32 ← k0_part171 i arg1 harg1 arg2 harg2 arg3 harg3 arg4 harg4 arg5 harg5 arg6 harg6 arg7 harg7 arg8 harg8 arg9 harg9 arg10 harg10 arg0 v1128 v1132 v1136 v1140 v1796 v1957
  let ⟨v2014, v2039, v2044, v2045⟩ : Σ' (v2014 : FVec F S32x768 .f32) (v2039 : FVec F S8x128 .f32) (v2044 : FVec F S8x128 .f32), FVec F S8x128 .f32 ← k0_part172 i arg1 harg1 arg2 harg2 arg3 harg3 arg4 harg4 arg5 harg5 arg6 harg6 arg7 harg7 arg8 harg8 arg9 harg9 arg10 harg10 arg0 v1121 v1128 v1132 v1136 v1140 v1796 v2001
  let v2087 : Vec F S8x128 .f32 ← k0_part173 i arg1 harg1 arg2 harg2 arg3 harg3 arg4 harg4 arg5 harg5 arg6 harg6 arg7 harg7 arg8 harg8 arg9 harg9 arg10 harg10 arg0 v1128 v1132 v1136 v1140 v2014 v2039 v2044 v2045
  let v2131 : FVec F S8x128 .f32 ← k0_part174 i arg1 harg1 arg2 harg2 arg3 harg3 arg4 harg4 arg5 harg5 arg6 harg6 arg7 harg7 arg8 harg8 arg9 harg9 arg10 harg10 arg0 v1128 v1132 v1136 v1140 v2014 v2087
  let v2175 : FVec F S8x128 .f32 ← k0_part175 i arg1 harg1 arg2 harg2 arg3 harg3 arg4 harg4 arg5 harg5 arg6 harg6 arg7 harg7 arg8 harg8 arg9 harg9 arg10 harg10 arg0 v1128 v1132 v1136 v1140 v2014 v2131
  let v2219 : FVec F S8x128 .f32 ← k0_part176 i arg1 harg1 arg2 harg2 arg3 harg3 arg4 harg4 arg5 harg5 arg6 harg6 arg7 harg7 arg8 harg8 arg9 harg9 arg10 harg10 arg0 v1128 v1132 v1136 v1140 v2014 v2175
  let v2221 : Vec F S1x1x128 .f32 ← Prog.lift (.load arg9 (Rect.unit (s := S7x8x3840) (k0_off242 i) S1x1x128.size (k0_off242_inb i)).toLoadRect (View.loadsAt_vmem h_S1x1x128))
  pure ⟨arg0, k0_pay1056 v1140 v2014 v2219 v2221⟩

/-- What every point does: the accumulation. -/
noncomputable def progM (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    Prog (TpuEff nD τ sig (Elt F) Λ₀ .tc) PUnit := do
  let ⟨arg0, v2227⟩ : Σ' (arg0 : BitVec 32), FVec F S8x128 .f32 ← progM2 i arg1 harg1 arg2 harg2 arg3 harg3 arg4 harg4 arg5 harg5 arg6 harg6 arg7 harg7 arg8 harg8 arg9 harg9 arg10 harg10
  let v2228 : Vec F S8x128 .f32 ← Prog.lift (.load arg10 (Rect.unit (s := S8x3840) ![0, 3712] S8x128.size inb_S8x3840_S8x128_0_3712).toLoadRect (View.loadsAt_vmem h_S8x128))
  Prog.lift (.store arg10 (Rect.unit (s := S8x3840) ![0, 3712] S8x128.size inb_S8x3840_S8x128_0_3712) (k0_pay1 v2227) Finset.univ (View.stores_vmem_bits_univ h_S8x128 rfl) (.inl rfl))

/-- What the last point does after accumulating. -/
noncomputable def progY (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    Prog (TpuEff nD τ sig (Elt F) Λ₀ .tc) PUnit := do
  let v2234 : Vec F S8x3840 .f32 ← Prog.lift (.load arg10 (Rect.unit (s := S8x3840) ![0, 0] S8x3840.size inb_S8x3840_S8x3840_0_0).toLoadRect (View.loadsAt_vmem h_S8x3840))
  let v2236 : Vec F S8x3840 .bf16 ← Prog.lift (.load arg4 (Rect.unit (s := S8x3840) ![0, 0] S8x3840.size inb_S8x3840_S8x3840_0_0).toLoadRect (View.loadsAt_vmem h_S8x3840))
  Prog.lift (.store arg4 (Rect.unit (s := S8x3840) ![0, 0] S8x3840.size inb_S8x3840_S8x3840_0_0) (k0_pay2 v2234) Finset.univ (View.stores_vmem h_S8x3840 (harg4.storeExact_slice rfl _ packedbf16_S8x3840_S8x3840_0_0) (fun _ => rfl)) (.inl rfl))
  pure ⟨⟩

/-- The accumulation's head, behind the first point's guarded phase. -/
theorem part126_eq (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    k0_part126 (F := F) i arg1 harg1 arg2 harg2 arg3 harg3 arg4 harg4 arg5 harg5 arg6 harg6 arg7 harg7 arg8 harg8 arg9 harg9 arg10 harg10
      = (if k0_cond1 i = 1#1 then progQ i arg1 harg1 arg2 harg2 arg3 harg3 arg4 harg4 arg5 harg5 arg6 harg6 arg7 harg7 arg8 harg8 arg9 harg9 arg10 harg10 else pure ⟨⟩) >>= fun _ => progM1 i arg1 harg1 arg2 harg2 arg3 harg3 arg4 harg4 arg5 harg5 arg6 harg6 arg7 harg7 arg8 harg8 arg9 harg9 arg10 harg10 := by
  rw [k0_part126_eq_skeleton]
  unfold k0_part126_skel
  by_cases h : k0_cond1 i = 1#1
  · rw [if_pos h, dif_pos h]
    unfold progQ
    refine Eq.symm ((Prog.bind_assoc _ _ _).trans (congrArg (_ >>= ·) (funext fun p => ?_)))
    obtain ⟨p1, p2, p3, p4, p5, p6, p7, p8⟩ := p
    refine (Prog.bind_assoc _ _ _).trans (congrArg (_ >>= ·) (funext fun q => ?_))
    obtain ⟨q1, q2, q3⟩ := q
    refine (Prog.bind_assoc _ _ _).trans (congrArg (_ >>= ·) (funext fun v => ?_))
    refine (Prog.bind_assoc _ _ _).trans (congrArg (_ >>= ·) (funext fun u => ?_))
    obtain ⟨u1, u2⟩ := u
    refine (Prog.bind_assoc _ _ _).trans (congrArg (_ >>= ·) (funext fun w => ?_))
    obtain ⟨w1, w2⟩ := w
    rfl
  · rw [if_neg h, dif_neg h]
    rfl

/-- The accumulation up to its last store, behind the first point's guarded phase. -/
theorem part177_eq (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    k0_part177 (F := F) i arg1 harg1 arg2 harg2 arg3 harg3 arg4 harg4 arg5 harg5 arg6 harg6 arg7 harg7 arg8 harg8 arg9 harg9 arg10 harg10
      = (if k0_cond1 i = 1#1 then progQ i arg1 harg1 arg2 harg2 arg3 harg3 arg4 harg4 arg5 harg5 arg6 harg6 arg7 harg7 arg8 harg8 arg9 harg9 arg10 harg10 else pure ⟨⟩) >>= fun _ => progM2 i arg1 harg1 arg2 harg2 arg3 harg3 arg4 harg4 arg5 harg5 arg6 harg6 arg7 harg7 arg8 harg8 arg9 harg9 arg10 harg10 := by
  rw [k0_part177_eq_skeleton]
  unfold k0_part177_skel progM2
  rw [part126_eq]
  exact Prog.bind_assoc _ _ _

/-- The body is its three phases in order, the first and the last guarded. -/
theorem body_eq (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) :
    cc0__body (F := F) i arg1 harg1 arg2 harg2 arg3 harg3 arg4 harg4 arg5 harg5 arg6 harg6 arg7 harg7 arg8 harg8 arg9 harg9 arg10 harg10
      = (if k0_cond1 i = 1#1 then progQ i arg1 harg1 arg2 harg2 arg3 harg3 arg4 harg4 arg5 harg5 arg6 harg6 arg7 harg7 arg8 harg8 arg9 harg9 arg10 harg10 else pure ⟨⟩) >>= fun _ =>
          progM i arg1 harg1 arg2 harg2 arg3 harg3 arg4 harg4 arg5 harg5 arg6 harg6 arg7 harg7 arg8 harg8 arg9 harg9 arg10 harg10 >>= fun _ => (if k0_cond2 i = 1#1 then progY i arg1 harg1 arg2 harg2 arg3 harg3 arg4 harg4 arg5 harg5 arg6 harg6 arg7 harg7 arg8 harg8 arg9 harg9 arg10 harg10 else pure ⟨⟩) := by
  rw [cc0__body_eq_skeleton]
  unfold cc0__body_skel progM
  rw [part177_eq]
  refine (Prog.bind_assoc _ _ _).trans (congrArg (_ >>= ·) (funext fun _ => ?_))
  refine Eq.trans ?_ (Prog.bind_assoc _ _ _).symm
  refine congrArg (_ >>= ·) (funext fun r => ?_)
  by_cases h : k0_cond2 i = 1#1
  · simp only [dif_pos h, if_pos h]; rfl
  · simp only [dif_neg h, if_neg h]; rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 7 = 6 :=
  (fun t => by
    have ht : t.val < 7 := Nat.lt_of_lt_of_eq t.isLt N_0
    have e0 : (grid0.coords t 0).val = t.val / 1 % 7 := Pipeline.Grid.coords_val t 0 (by decide) rfl
    simp only [cond0_1, k0_cond2, e0]
    word_cmp
   : ∀ t : Fin grid0.N, cond0_1 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3840 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S30x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x3840 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x7168 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x56 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S32x7168 .fp8e4m3 := Memref.whole cc0_scratch0
abbrev scM0_1 : Memref sig .tc .vmem S448x128 .f32 := Memref.whole cc0_scratch1
abbrev scM0_2 : Memref sig .tc .vmem S7x8x3840 .f32 := Memref.whole cc0_scratch2
abbrev scM0_3 : Memref sig .tc .vmem S8x3840 .f32 := Memref.whole cc0_scratch3
/-- The scratch `arg7` the kernel carries between points, as a view: what it holds is stated through it. -/
abbrev VS0_0 : View sig .tc .vmem S32x7168 .fp8e4m3 := scM0_0.view
/-- The scratch `arg8` the kernel carries between points, as a view: what it holds is stated through it. -/
abbrev VS0_1 : View sig .tc .vmem S448x128 .f32 := scM0_1.view
/-- The scratch `arg9` the kernel carries between points, as a view: what it holds is stated through it. -/
abbrev VS0_2 : View sig .tc .vmem S7x8x3840 .f32 := scM0_2.view
/-- The scratch `arg10` the kernel carries between points, as a view: what it holds is stated through it. -/
abbrev VS0_3 : View sig .tc .vmem S8x3840 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen.Own

end
-- ==== Proof.RunQ.lean ====
/- The first phase of the body, run: the pieces it writes into the two outputs and the four scratch buffers. -/
module

public import proofs.«01_k».proof.Proof.Phases

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9672000 in
/-- The first phase on whole buffers: the activations and the weight scales at their contents, everything it stores into
    at anything; what it leaves is the pieces the run finds. -/
noncomputable def runQ (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole)
    (x1 : Vec F S8x7168 .bf16) (x3 : Vec F S30x56 .f32) :
    Σ' (L5 : List (View.Piece (Elt F) S8x7168 .fp8e4m3)), Σ' (L6 : List (View.Piece (Elt F) S8x1x56 .f32)), Σ' (L7 : List (View.Piece (Elt F) S32x7168 .fp8e4m3)), Σ' (L8 : List (View.Piece (Elt F) S448x128 .f32)), Σ' (L9 : List (View.Piece (Elt F) S7x8x3840 .f32)), { L10 : List (View.Piece (Elt F) S8x3840 .f32) //
      ∀ (E : Set ℕ) (K : PUnit → sProp 𝕄),
        iprop(owns (c : Thread nD τ) arg1 fullShare x1 ∗ owns (c : Thread nD τ) arg3 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg3 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (progQ i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    unfold progQ
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
    unfold owns
    iintro ⟨⟨%f1, %hf1, H1⟩, ⟨%f3, %hf3, H3⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg3.eq_unread hf3
    sl_exec
    sl_step
    iapply Hk
    isplitl [H1]
    · iexists _; isplitr; · ipureintro; exact harg1.read_unread _
      iexact H1
    isplitl [H3]
    · iexists _; isplitr; · ipureintro; exact harg3.read_unread _
      iexact H3
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

end Cert.KernelIdeal.Gen.Own

end
-- ==== Proof.RunM.lean ====
/- The accumulation and the last store, run: the pieces they write. -/
module

public import proofs.«01_k».proof.Proof.Phases

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9672000 in
/-- The accumulation on whole buffers: the weights, the three prepared scratch buffers and the accumulator at their
    contents; what it leaves in the accumulator is the pieces the run finds. -/
noncomputable def runM (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole)
    (x2 : Vec F S1024x3840 .fp8e4m3) (x7 : Vec F S32x7168 .fp8e4m3) (x8 : Vec F S448x128 .f32) (x9 : Vec F S7x8x3840 .f32) (x10 : Vec F S8x3840 .f32) :
    { L10 : List (View.Piece (Elt F) S8x3840 .f32) //
      ∀ (E : Set ℕ) (K : PUnit → sProp 𝕄),
        iprop(owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg2 fullShare x2 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10)) -∗ K ⟨⟩))
          ⊢ wp frame (wpE (defs₀ (F := F)) Variants.none c none) E (progM i arg1 harg1 arg2 harg2 arg3 harg3 arg4 harg4 arg5 harg5 arg6 harg6 arg7 harg7 arg8 harg8 arg9 harg9 arg10 harg10) K } := by
  refine ⟨?_, fun E K => ?run⟩
  case run =>
    unfold progM
    simp only [progM2, progM1, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton]
    unfold owns
    iintro ⟨⟨%f2, %hf2, H2⟩, ⟨%f7, %hf7, H7⟩, ⟨%f8, %hf8, H8⟩, ⟨%f9, %hf9, H9⟩, ⟨%f10, %hf10, H10⟩, Hk⟩
    obtain rfl := harg2.eq_unread hf2; obtain rfl := harg7.eq_unread hf7; obtain rfl := harg8.eq_unread hf8; obtain rfl := harg9.eq_unread hf9; obtain rfl := harg10.eq_unread hf10
    sl_exec
    sl_step
    iapply Hk
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact H10

set_option maxHeartbeats 9672000 in
/-- The last store on whole buffers. -/
noncomputable def runY (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole)
    (x10 : Vec F S8x3840 .f32) :
    { L4 : List (View.Piece (Elt F) S8x3840 .bf16) //
      ∀ (E : Set ℕ) (K : PUnit → sProp 𝕄),
        iprop((∃ d, owns (c : Thread nD τ) arg4 fullShare d) ∗ owns (c : Thread nD τ) arg10 fullShare x10
            ∗ (iprop((∃ f, arg4.view.loc (c : Thread nD τ) ↦[arg4.view.set]{fullShare} arg4.view.writes (Elt F) f L4) ∗ owns (c : Thread nD τ) arg10 fullShare x10) -∗ K ⟨⟩))
          ⊢ wp frame (wpE (defs₀ (F := F)) Variants.none c none) E (progY i arg1 harg1 arg2 harg2 arg3 harg3 arg4 harg4 arg5 harg5 arg6 harg6 arg7 harg7 arg8 harg8 arg9 harg9 arg10 harg10) K } := by
  refine ⟨?_, fun E K => ?run⟩
  case run =>
    unfold progY
    unfold owns
    iintro ⟨⟨%d4, %f4, -, H4⟩, ⟨%f10, %hf10, H10⟩, Hk⟩
    obtain rfl := harg10.eq_unread hf10
    sl_exec
    sl_step
    iapply Hk
    isplitl [H4]
    · iexists _; iexact H4
    iexists _; isplitr; · ipureintro; exact harg10.read_unread _
    iexact H10

end Cert.KernelIdeal.Gen.Own

end
-- ==== Proof.Covers.lean ====
/- The kernel of the idealized program, run and framed with its results named. -/
module

public import proofs.«01_k».proof.Proof.RunQ
public import proofs.«01_k».proof.Proof.RunM

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Every store covers its buffer -/
set_option maxHeartbeats 4000000 in
/-- What the first phase stores into operand 5 covers it. -/
theorem coverQ5 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S8x7168).Idx) :
    ∃ p ∈ (runQ c i arg1 harg1 arg2 harg2 arg3 harg3 arg4 harg4 arg5 harg5 arg6 harg6 arg7 harg7 arg8 harg8 arg9 harg9 arg10 harg10 x1 x3).1, y ∈ p.1.set := View.cover_of_tiledL (runQ c i arg1 harg1 arg2 harg2 arg3 harg3 arg4 harg4 arg5 harg5 arg6 harg6 arg7 harg7 arg8 harg8 arg9 harg9 arg10 harg10 x1 x3).1 S8x128.size (by sl_kernel_rfl) y
set_option maxHeartbeats 4000000 in
/-- What the first phase stores into operand 6 covers it. -/
theorem coverQ6 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S8x1x56).Idx) :
    ∃ p ∈ (runQ c i arg1 harg1 arg2 harg2 arg3 harg3 arg4 harg4 arg5 harg5 arg6 harg6 arg7 harg7 arg8 harg8 arg9 harg9 arg10 harg10 x1 x3).2.1, y ∈ p.1.set := View.cover_of_wholeMem (runQ c i arg1 harg1 arg2 harg2 arg3 harg3 arg4 harg4 arg5 harg5 arg6 harg6 arg7 harg7 arg8 harg8 arg9 harg9 arg10 harg10 x1 x3).2.1 (by sl_whole_mem) y
set_option maxHeartbeats 4000000 in
/-- What the first phase stores into operand 7 covers it. -/
theorem coverQ7 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S32x7168).Idx) :
    ∃ p ∈ (runQ c i arg1 harg1 arg2 harg2 arg3 harg3 arg4 harg4 arg5 harg5 arg6 harg6 arg7 harg7 arg8 harg8 arg9 harg9 arg10 harg10 x1 x3).2.2.1, y ∈ p.1.set := View.cover_of_tiledL (runQ c i arg1 harg1 arg2 harg2 arg3 harg3 arg4 harg4 arg5 harg5 arg6 harg6 arg7 harg7 arg8 harg8 arg9 harg9 arg10 harg10 x1 x3).2.2.1 S32x128.size (by sl_kernel_rfl) y
set_option maxHeartbeats 4000000 in
/-- What the first phase stores into operand 8 covers it. -/
theorem coverQ8 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S448x128).Idx) :
    ∃ p ∈ (runQ c i arg1 harg1 arg2 harg2 arg3 harg3 arg4 harg4 arg5 harg5 arg6 harg6 arg7 harg7 arg8 harg8 arg9 harg9 arg10 harg10 x1 x3).2.2.2.1, y ∈ p.1.set := View.cover_of_tiledL (runQ c i arg1 harg1 arg2 harg2 arg3 harg3 arg4 harg4 arg5 harg5 arg6 harg6 arg7 harg7 arg8 harg8 arg9 harg9 arg10 harg10 x1 x3).2.2.2.1 S8x128.size (by sl_kernel_rfl) y
set_option maxHeartbeats 4000000 in
/-- What the first phase stores into operand 9 covers it. -/
theorem coverQ9 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S7x8x3840).Idx) :
    ∃ p ∈ (runQ c i arg1 harg1 arg2 harg2 arg3 harg3 arg4 harg4 arg5 harg5 arg6 harg6 arg7 harg7 arg8 harg8 arg9 harg9 arg10 harg10 x1 x3).2.2.2.2.1, y ∈ p.1.set := View.cover_of_tiledL (runQ c i arg1 harg1 arg2 harg2 arg3 harg3 arg4 harg4 arg5 harg5 arg6 harg6 arg7 harg7 arg8 harg8 arg9 harg9 arg10 harg10 x1 x3).2.2.2.2.1 S1x8x128.size (by sl_kernel_rfl) y
set_option maxHeartbeats 4000000 in
/-- What the first phase stores into operand 10 covers it. -/
theorem coverQ10 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (y : (S8x3840).Idx) :
    ∃ p ∈ (runQ c i arg1 harg1 arg2 harg2 arg3 harg3 arg4 harg4 arg5 harg5 arg6 harg6 arg7 harg7 arg8 harg8 arg9 harg9 arg10 harg10 x1 x3).2.2.2.2.2.1, y ∈ p.1.set := View.cover_of_wholeMem (runQ c i arg1 harg1 arg2 harg2 arg3 harg3 arg4 harg4 arg5 harg5 arg6 harg6 arg7 harg7 arg8 harg8 arg9 harg9 arg10 harg10 x1 x3).2.2.2.2.2.1 (by sl_whole_mem) y
set_option maxHeartbeats 4000000 in
/-- What the accumulation stores covers the accumulator. -/
theorem coverM (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) (y : S8x3840.Idx) :
    ∃ p ∈ (runM c i arg1 harg1 arg2 harg2 arg3 harg3 arg4 harg4 arg5 harg5 arg6 harg6 arg7 harg7 arg8 harg8 arg9 harg9 arg10 harg10 x2 x7 x8 x9 x10).1, y ∈ p.1.set := View.cover_of_tiledL (runM c i arg1 harg1 arg2 harg2 arg3 harg3 arg4 harg4 arg5 harg5 arg6 harg6 arg7 harg7 arg8 harg8 arg9 harg9 arg10 harg10 x2 x7 x8 x9 x10).1 S8x128.size (by sl_kernel_rfl) y

/-- The last store covers the result. -/
theorem coverY (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x10 : Vec F S8x3840 .f32) (y : S8x3840.Idx) :
    ∃ p ∈ (runY c i arg1 harg1 arg2 harg2 arg3 harg3 arg4 harg4 arg5 harg5 arg6 harg6 arg7 harg7 arg8 harg8 arg9 harg9 arg10 harg10 x10).1, y ∈ p.1.set := View.cover_of_wholeMem (runY c i arg1 harg1 arg2 harg2 arg3 harg3 arg4 harg4 arg5 harg5 arg6 harg6 arg7 harg7 arg8 harg8 arg9 harg9 arg10 harg10 x10).1 (by sl_whole_mem) y

/-! ## What the phases leave -/
/-- What the first phase leaves in operand 5. -/
def outQ5 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S8x7168 .fp8e4m3 :=
  View.canon (runQ c i arg1 harg1 arg2 harg2 arg3 harg3 arg4 harg4 arg5 harg5 arg6 harg6 arg7 harg7 arg8 harg8 arg9 harg9 arg10 harg10 x1 x3).1
/-- What the first phase leaves in operand 6. -/
def outQ6 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S8x1x56 .f32 :=
  View.canon (runQ c i arg1 harg1 arg2 harg2 arg3 harg3 arg4 harg4 arg5 harg5 arg6 harg6 arg7 harg7 arg8 harg8 arg9 harg9 arg10 harg10 x1 x3).2.1
/-- What the first phase leaves in operand 7. -/
def outQ7 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S32x7168 .fp8e4m3 :=
  View.canon (runQ c i arg1 harg1 arg2 harg2 arg3 harg3 arg4 harg4 arg5 harg5 arg6 harg6 arg7 harg7 arg8 harg8 arg9 harg9 arg10 harg10 x1 x3).2.2.1
/-- What the first phase leaves in operand 8. -/
def outQ8 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S448x128 .f32 :=
  View.canon (runQ c i arg1 harg1 arg2 harg2 arg3 harg3 arg4 harg4 arg5 harg5 arg6 harg6 arg7 harg7 arg8 harg8 arg9 harg9 arg10 harg10 x1 x3).2.2.2.1
/-- What the first phase leaves in operand 9. -/
def outQ9 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S7x8x3840 .f32 :=
  View.canon (runQ c i arg1 harg1 arg2 harg2 arg3 harg3 arg4 harg4 arg5 harg5 arg6 harg6 arg7 harg7 arg8 harg8 arg9 harg9 arg10 harg10 x1 x3).2.2.2.2.1
/-- What the first phase leaves in operand 10. -/
def outQ10 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) : Vec F S8x3840 .f32 :=
  View.canon (runQ c i arg1 harg1 arg2 harg2 arg3 harg3 arg4 harg4 arg5 harg5 arg6 harg6 arg7 harg7 arg8 harg8 arg9 harg9 arg10 harg10 x1 x3).2.2.2.2.2.1
/-- What the accumulation leaves in the accumulator. -/
def outM (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) : Vec F S8x3840 .f32 :=
  View.canon (runM c i arg1 harg1 arg2 harg2 arg3 harg3 arg4 harg4 arg5 harg5 arg6 harg6 arg7 harg7 arg8 harg8 arg9 harg9 arg10 harg10 x2 x7 x8 x9 x10).1

/-- What the last store leaves in the result. -/
def outY (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x10 : Vec F S8x3840 .f32) : Vec F S8x3840 .bf16 :=
  View.canon (runY c i arg1 harg1 arg2 harg2 arg3 harg3 arg4 harg4 arg5 harg5 arg6 harg6 arg7 harg7 arg8 harg8 arg9 harg9 arg10 harg10 x10).1

/-! ## The phases' triples -/

/-- Pieces that cover a buffer leave it at what they read back as. -/
theorem owns_of_pieces (c : Dev nD) {sp : Space} {s : Shape} {e : EltTy} (arg : Memref sig .tc sp s e) (L : List (View.Piece (Elt F) s e))
    (h : ∀ y, ∃ p ∈ L, y ∈ p.1.set) :
    iprop(∃ f, arg.view.loc (c : Thread nD τ) ↦[arg.view.set]{fullShare} arg.view.writes (Elt F) f L) ⊢ (owns (c : Thread nD τ) arg fullShare (View.canon L) : sProp 𝕄) := by
  iintro ⟨%f, H⟩
  unfold owns; iexists _; isplitr
  swap; · iexact H
  ipureintro; exact View.read_writes_eq_canon _ _ _ h

set_option maxHeartbeats 1600000 in
/-- The first phase. -/
theorem tripleQ (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) (E : Set ℕ) (K : PUnit → sProp 𝕄) :
    iprop(owns (c : Thread nD τ) arg1 fullShare x1 ∗ owns (c : Thread nD τ) arg3 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg3 fullShare x3 ∗ owns (c : Thread nD τ) arg5 fullShare (outQ5 c i arg1 harg1 arg2 harg2 arg3 harg3 arg4 harg4 arg5 harg5 arg6 harg6 arg7 harg7 arg8 harg8 arg9 harg9 arg10 harg10 x1 x3) ∗ owns (c : Thread nD τ) arg6 fullShare (outQ6 c i arg1 harg1 arg2 harg2 arg3 harg3 arg4 harg4 arg5 harg5 arg6 harg6 arg7 harg7 arg8 harg8 arg9 harg9 arg10 harg10 x1 x3) ∗ owns (c : Thread nD τ) arg7 fullShare (outQ7 c i arg1 harg1 arg2 harg2 arg3 harg3 arg4 harg4 arg5 harg5 arg6 harg6 arg7 harg7 arg8 harg8 arg9 harg9 arg10 harg10 x1 x3) ∗ owns (c : Thread nD τ) arg8 fullShare (outQ8 c i arg1 harg1 arg2 harg2 arg3 harg3 arg4 harg4 arg5 harg5 arg6 harg6 arg7 harg7 arg8 harg8 arg9 harg9 arg10 harg10 x1 x3) ∗ owns (c : Thread nD τ) arg9 fullShare (outQ9 c i arg1 harg1 arg2 harg2 arg3 harg3 arg4 harg4 arg5 harg5 arg6 harg6 arg7 harg7 arg8 harg8 arg9 harg9 arg10 harg10 x1 x3) ∗ owns (c : Thread nD τ) arg10 fullShare (outQ10 c i arg1 harg1 arg2 harg2 arg3 harg3 arg4 harg4 arg5 harg5 arg6 harg6 arg7 harg7 arg8 harg8 arg9 harg9 arg10 harg10 x1 x3)) -∗ K ⟨⟩))
      ⊢ wp frame (wpE (defs₀ (F := F)) Variants.none c none) E (progQ i arg1 harg1 arg2 harg2 arg3 harg3 arg4 harg4 arg5 harg5 arg6 harg6 arg7 harg7 arg8 harg8 arg9 harg9 arg10 harg10) K := by
  refine BIBase.Entails.trans ?_ ((runQ c i arg1 harg1 arg2 harg2 arg3 harg3 arg4 harg4 arg5 harg5 arg6 harg6 arg7 harg7 arg8 harg8 arg9 harg9 arg10 harg10 x1 x3).2.2.2.2.2.2 E K)
  iintro ⟨H1, H3, H5, H6, H7, H8, H9, H10, Hk⟩
  isplitl [H1]; · iexact H1
  isplitl [H3]; · iexact H3
  isplitl [H5]; · iexact H5
  isplitl [H6]; · iexact H6
  isplitl [H7]; · iexact H7
  isplitl [H8]; · iexact H8
  isplitl [H9]; · iexact H9
  isplitl [H10]; · iexact H10
  iintro ⟨H1, H3, H5, H6, H7, H8, H9, H10⟩
  iapply Hk
  isplitl [H1]; · iexact H1
  isplitl [H3]; · iexact H3
  isplitl [H5]
  · iapply (owns_of_pieces c arg5 _ (coverQ5 c i arg1 harg1 arg2 harg2 arg3 harg3 arg4 harg4 arg5 harg5 arg6 harg6 arg7 harg7 arg8 harg8 arg9 harg9 arg10 harg10 x1 x3)); iexact H5
  isplitl [H6]
  · iapply (owns_of_pieces c arg6 _ (coverQ6 c i arg1 harg1 arg2 harg2 arg3 harg3 arg4 harg4 arg5 harg5 arg6 harg6 arg7 harg7 arg8 harg8 arg9 harg9 arg10 harg10 x1 x3)); iexact H6
  isplitl [H7]
  · iapply (owns_of_pieces c arg7 _ (coverQ7 c i arg1 harg1 arg2 harg2 arg3 harg3 arg4 harg4 arg5 harg5 arg6 harg6 arg7 harg7 arg8 harg8 arg9 harg9 arg10 harg10 x1 x3)); iexact H7
  isplitl [H8]
  · iapply (owns_of_pieces c arg8 _ (coverQ8 c i arg1 harg1 arg2 harg2 arg3 harg3 arg4 harg4 arg5 harg5 arg6 harg6 arg7 harg7 arg8 harg8 arg9 harg9 arg10 harg10 x1 x3)); iexact H8
  isplitl [H9]
  · iapply (owns_of_pieces c arg9 _ (coverQ9 c i arg1 harg1 arg2 harg2 arg3 harg3 arg4 harg4 arg5 harg5 arg6 harg6 arg7 harg7 arg8 harg8 arg9 harg9 arg10 harg10 x1 x3)); iexact H9
  iapply (owns_of_pieces c arg10 _ (coverQ10 c i arg1 harg1 arg2 harg2 arg3 harg3 arg4 harg4 arg5 harg5 arg6 harg6 arg7 harg7 arg8 harg8 arg9 harg9 arg10 harg10 x1 x3)); iexact H10

set_option maxHeartbeats 1600000 in
/-- The accumulation. -/
theorem tripleM (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) (E : Set ℕ) (K : PUnit → sProp 𝕄) :
    iprop(owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg2 fullShare x2 ∗ owns (c : Thread nD τ) arg7 fullShare x7 ∗ owns (c : Thread nD τ) arg8 fullShare x8 ∗ owns (c : Thread nD τ) arg9 fullShare x9 ∗ owns (c : Thread nD τ) arg10 fullShare (outM c i arg1 harg1 arg2 harg2 arg3 harg3 arg4 harg4 arg5 harg5 arg6 harg6 arg7 harg7 arg8 harg8 arg9 harg9 arg10 harg10 x2 x7 x8 x9 x10)) -∗ K ⟨⟩))
      ⊢ wp frame (wpE (defs₀ (F := F)) Variants.none c none) E (progM i arg1 harg1 arg2 harg2 arg3 harg3 arg4 harg4 arg5 harg5 arg6 harg6 arg7 harg7 arg8 harg8 arg9 harg9 arg10 harg10) K := by
  refine BIBase.Entails.trans ?_ ((runM c i arg1 harg1 arg2 harg2 arg3 harg3 arg4 harg4 arg5 harg5 arg6 harg6 arg7 harg7 arg8 harg8 arg9 harg9 arg10 harg10 x2 x7 x8 x9 x10).2 E K)
  iintro ⟨H2, H7, H8, H9, H10, Hk⟩
  isplitl [H2]; · iexact H2
  isplitl [H7]; · iexact H7
  isplitl [H8]; · iexact H8
  isplitl [H9]; · iexact H9
  isplitl [H10]; · iexact H10
  iintro ⟨H2, H7, H8, H9, H10⟩
  iapply Hk
  isplitl [H2]; · iexact H2
  isplitl [H7]; · iexact H7
  isplitl [H8]; · iexact H8
  isplitl [H9]; · iexact H9
  iapply (owns_of_pieces c arg10 _ (coverM c i arg1 harg1 arg2 harg2 arg3 harg3 arg4 harg4 arg5 harg5 arg6 harg6 arg7 harg7 arg8 harg8 arg9 harg9 arg10 harg10 x2 x7 x8 x9 x10)); iexact H10

/-- The last store. -/
theorem tripleY (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x10 : Vec F S8x3840 .f32) (E : Set ℕ) (K : PUnit → sProp 𝕄) :
    iprop((∃ d, owns (c : Thread nD τ) arg4 fullShare d) ∗ owns (c : Thread nD τ) arg10 fullShare x10 ∗ (iprop(owns (c : Thread nD τ) arg4 fullShare (outY c i arg1 harg1 arg2 harg2 arg3 harg3 arg4 harg4 arg5 harg5 arg6 harg6 arg7 harg7 arg8 harg8 arg9 harg9 arg10 harg10 x10) ∗ owns (c : Thread nD τ) arg10 fullShare x10) -∗ K ⟨⟩))
      ⊢ wp frame (wpE (defs₀ (F := F)) Variants.none c none) E (progY i arg1 harg1 arg2 harg2 arg3 harg3 arg4 harg4 arg5 harg5 arg6 harg6 arg7 harg7 arg8 harg8 arg9 harg9 arg10 harg10) K := by
  refine BIBase.Entails.trans ?_ ((runY c i arg1 harg1 arg2 harg2 arg3 harg3 arg4 harg4 arg5 harg5 arg6 harg6 arg7 harg7 arg8 harg8 arg9 harg9 arg10 harg10 x10).2 E K)
  iintro ⟨H4, H10, Hk⟩
  isplitl [H4]; · iexact H4
  isplitl [H10]; · iexact H10
  iintro ⟨H4, H10⟩
  iapply Hk
  isplitl [H4]
  · iapply (owns_of_pieces c arg4 _ (coverY c i arg1 harg1 arg2 harg2 arg3 harg3 arg4 harg4 arg5 harg5 arg6 harg6 arg7 harg7 arg8 harg8 arg9 harg9 arg10 harg10 x10)); iexact H4
  iexact H10

end Cert.KernelIdeal.Gen.Own

end
-- ==== Proof.OwnFrame.lean ====
/- The kernel of the idealized program, run and framed with its results named. -/
module

public import proofs.«01_k».proof.Proof.Covers
public import Idealize.ShloMosaic.Lib.Claim

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points store which results -/

/-- The first and the last grid point. -/
def t0 : Fin cfg0.N := ⟨0, by rw [show cfg0.N = 7 from N_0]; decide⟩
def t6 : Fin cfg0.N := ⟨6, by rw [show cfg0.N = 7 from N_0]; decide⟩

theorem idle3 (t : Fin cfg0.N) (h : ¬t.val % 7 = 6) : cfg0.idle 3 (cfg0.grid.coords t) = true := by
  have := fun e => h ((hcond0_1 t).mp e)
  show (!(k0_cond2 (grid0.coords t) == 1#1)) = true
  simpa using this
theorem live3 (t : Fin cfg0.N) (h : t.val % 7 = 6) : cfg0.idle 3 (cfg0.grid.coords t) = false := by
  have := (hcond0_1 t).mpr h
  show (!(k0_cond2 (grid0.coords t) == 1#1)) = false
  simpa using this
theorem idle4 (t : Fin cfg0.N) (h : ¬t.val % 7 = 0) : cfg0.idle 4 (cfg0.grid.coords t) = true := by
  have := fun e => h ((hcond0_0 t).mp e)
  show (!(k0_cond1 (grid0.coords t) == 1#1)) = true
  simpa using this
theorem live4 (t : Fin cfg0.N) (h : t.val % 7 = 0) : cfg0.idle 4 (cfg0.grid.coords t) = false := by
  have := (hcond0_0 t).mpr h
  show (!(k0_cond1 (grid0.coords t) == 1#1)) = false
  simpa using this
theorem idle5 (t : Fin cfg0.N) (h : ¬t.val % 7 = 0) : cfg0.idle 5 (cfg0.grid.coords t) = true := by
  have := fun e => h ((hcond0_0 t).mp e)
  show (!(k0_cond1 (grid0.coords t) == 1#1)) = true
  simpa using this
theorem live5 (t : Fin cfg0.N) (h : t.val % 7 = 0) : cfg0.idle 5 (cfg0.grid.coords t) = false := by
  have := (hcond0_0 t).mpr h
  show (!(k0_cond1 (grid0.coords t) == 1#1)) = false
  simpa using this
theorem noflush3 (t : Fin cfg0.N) (h : ¬t.val % 7 = 6) : (cfg0.win 3).flush t = false :=
  Bool.eq_false_iff.mpr fun e => h ((flush0_3 t).mp e)
theorem noflush4 (t : Fin cfg0.N) (h : ¬t.val % 7 = 6) : (cfg0.win 4).flush t = false :=
  Bool.eq_false_iff.mpr fun e => h ((flush0_4 t).mp e)
theorem noflush5 (t : Fin cfg0.N) (h : ¬t.val % 7 = 6) : (cfg0.win 5).flush t = false :=
  Bool.eq_false_iff.mpr fun e => h ((flush0_5 t).mp e)

/-! ## What the buffers hold, point by point -/

/-- What the first point leaves in operand 5. -/
def codesV (c : Dev nD) : Vec F S8x7168 .fp8e4m3 :=
  outQ5 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- What the first point leaves in operand 6. -/
def scalesV (c : Dev nD) : Vec F S8x1x56 .f32 :=
  outQ6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- What the first point leaves in operand 7. -/
def lhsV (c : Dev nD) : Vec F S32x7168 .fp8e4m3 :=
  outQ7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- What the first point leaves in operand 8. -/
def xsV (c : Dev nD) : Vec F S448x128 .f32 :=
  outQ8 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- What the first point leaves in operand 9. -/
def wsxV (c : Dev nD) : Vec F S7x8x3840 .f32 :=
  outQ9 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- What the first point leaves in operand 10. -/
def zeroV (c : Dev nD) : Vec F S8x3840 .f32 :=
  outQ10 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0)
/-- One point's accumulation, from the accumulator's contents before it. -/
def stepV (c : Dev nD) (t : Fin cfg0.N) (a : Vec F S8x3840 .f32) : Vec F S8x3840 .f32 :=
  outM c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 1 t) (lhsV m c) (xsV m c) (wsxV m c) a
/-- The accumulator after point `n`. -/
def accV (c : Dev nD) : (n : ℕ) → n < cfg0.N → Vec F S8x3840 .f32
  | 0, h => stepV m c ⟨0, h⟩ (zeroV m c)
  | n + 1, h => stepV m c ⟨n + 1, h⟩ (accV c n (Nat.lt_of_succ_lt h))
/-- The first result. -/
def yV (c : Dev nD) : Vec F S8x3840 .bf16 :=
  outY c (grid0.coords t6) (ms0_0 t6) (hs0_0 t6) (ms0_1 t6) (hs0_1 t6) (ms0_2 t6) (hs0_2 t6) (ms0_3 t6) (hs0_3 t6) (ms0_4 t6) (hs0_4 t6) (ms0_5 t6) (hs0_5 t6) scM0_0 (Memref.isWhole_whole _) scM0_1 (Memref.isWhole_whole _) scM0_2 (Memref.isWhole_whole _) scM0_3 (Memref.isWhole_whole _) (accV m c t6.val t6.isLt)

theorem accV_pos (c : Dev nD) (t : Fin cfg0.N) (h : t.val ≠ 0) :
    accV m c t.val t.isLt = stepV m c t (accV m c (t.val - 1) (Nat.lt_of_le_of_lt (Nat.sub_le _ _) t.isLt)) := by
  obtain ⟨n, hn⟩ := t
  cases n with
  | zero => exact absurd rfl h
  | succ n => rfl

/-- The invariant before position `n`: at first the scratch at anything; later the prepared scratch as the first point
    left it and the accumulator as the point before left it. -/
def PhiS (c : Dev nD) : (n : ℕ) → n ≤ cfg0.N → sProp 𝕄
  | 0, _ => Pipeline.ΦA spec0 c
  | n + 1, hn => iprop(iprop(owns (c : Thread nD τ) scM0_0 fullShare (lhsV m c) ∗ owns (c : Thread nD τ) scM0_1 fullShare (xsV m c) ∗ owns (c : Thread nD τ) scM0_2 fullShare (wsxV m c) ∗ owns (c : Thread nD τ) scM0_3 fullShare (accV m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (lhsV m c) ∗ owns (c : Thread nD τ) scM0_1 fullShare (xsV m c) ∗ owns (c : Thread nD τ) scM0_2 fullShare (wsxV m c) ∗ owns (c : Thread nD τ) scM0_3 fullShare (accV m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (lhsV m c) ∗ owns (c : Thread nD τ) scM0_1 fullShare (xsV m c) ∗ owns (c : Thread nD τ) scM0_2 fullShare (wsxV m c) ∗ owns (c : Thread nD τ) scM0_3 fullShare (accV m c (n - 1) (by omega))) ∗ (∃ r, prngReg c r)) := by
  cases n with
  | zero => exact absurd rfl hz
  | succ n => rfl

/-- The proof data: every input's buffer at its block, every result's at its contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yV m c
    | ⟨4, _⟩ => codesV m c
    | ⟨5, _⟩ => scalesV m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yV m c := by dsimp only [dats]
theorem after0_4 (c : Dev nD) (t : Fin cfg0.N) : (dats m 0 c).after 4 t = codesV m c := by dsimp only [dats]
theorem after0_5 (c : Dev nD) (t : Fin cfg0.N) : (dats m 0 c).after 5 t = scalesV m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- Result 1 stays in its buffer from the first point on. -/
theorem before0_4 (c : Dev nD) (t : Fin cfg0.N) (ht : t.val ≠ 0) (d) : (dats m 0 c).before 4 t d = codesV m c := by
  have hN : cfg0.N = 7 := N_0
  obtain ⟨n, hn⟩ := t
  induction n with
  | zero => exact absurd rfl ht
  | succ n ih =>
    rw [Pipeline.Dat.before_of_pos (dats m 0 c) 4 ⟨n + 1, hn⟩ ht rfl d]
    rw [show (⟨n + 1 - 1, Nat.lt_of_le_of_lt (Nat.sub_le _ _) hn⟩ : Fin cfg0.N) = ⟨n, Nat.lt_of_succ_lt hn⟩ from rfl]
    rw [noflush4 ⟨n, Nat.lt_of_succ_lt hn⟩ (by show ¬n % 7 = 6; omega), if_neg Bool.false_ne_true]
    by_cases hz : n = 0
    · subst hz
      unfold Pipeline.Dat.left
      rw [live4 ⟨0, _⟩ rfl]
      exact after0_4 m c _
    · unfold Pipeline.Dat.left
      rw [idle4 ⟨n, _⟩ (by show ¬n % 7 = 0; omega)]
      exact ih (Nat.lt_of_succ_lt hn) hz
/-- Result 2 stays in its buffer from the first point on. -/
theorem before0_5 (c : Dev nD) (t : Fin cfg0.N) (ht : t.val ≠ 0) (d) : (dats m 0 c).before 5 t d = scalesV m c := by
  have hN : cfg0.N = 7 := N_0
  obtain ⟨n, hn⟩ := t
  induction n with
  | zero => exact absurd rfl ht
  | succ n ih =>
    rw [Pipeline.Dat.before_of_pos (dats m 0 c) 5 ⟨n + 1, hn⟩ ht rfl d]
    rw [show (⟨n + 1 - 1, Nat.lt_of_le_of_lt (Nat.sub_le _ _) hn⟩ : Fin cfg0.N) = ⟨n, Nat.lt_of_succ_lt hn⟩ from rfl]
    rw [noflush5 ⟨n, Nat.lt_of_succ_lt hn⟩ (by show ¬n % 7 = 6; omega), if_neg Bool.false_ne_true]
    by_cases hz : n = 0
    · subst hz
      unfold Pipeline.Dat.left
      rw [live5 ⟨0, _⟩ rfl]
      exact after0_5 m c _
    · unfold Pipeline.Dat.left
      rw [idle5 ⟨n, _⟩ (by show ¬n % 7 = 0; omega)]
      exact ih (Nat.lt_of_succ_lt hn) hz

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3_live (c : Dev nD) (t : Fin cfg0.N) (h : t.val % 7 = 6) : (dats m 0 c).leavesExact 3 t = owns (c : Thread nD τ) (ms0_3 t) fullShare (yV m c) := by
  unfold Dat.leavesExact; rw [live3 t h, after0_3]
theorem leaves3_idle (c : Dev nD) (t : Fin cfg0.N) (h : ¬t.val % 7 = 6) (h' : ¬t.val % 7 = 6) : (dats m 0 c).leavesExact 3 t = iprop(∃ d, owns (c : Thread nD τ) (ms0_3 t) fullShare ((dats m 0 c).before 3 t d)) :=
  Pipeline.Dat.leavesExact_idle (dats m 0 c) 3 t (idle3 t h) (noflush3 t h')
theorem leaves4_live (c : Dev nD) (t : Fin cfg0.N) (h : t.val % 7 = 0) : (dats m 0 c).leavesExact 4 t = owns (c : Thread nD τ) (ms0_4 t) fullShare (codesV m c) := by
  unfold Dat.leavesExact; rw [live4 t h, after0_4]
theorem leaves4_idle (c : Dev nD) (t : Fin cfg0.N) (h : ¬t.val % 7 = 0) (h' : ¬t.val % 7 = 6) : (dats m 0 c).leavesExact 4 t = iprop(∃ d, owns (c : Thread nD τ) (ms0_4 t) fullShare ((dats m 0 c).before 4 t d)) :=
  Pipeline.Dat.leavesExact_idle (dats m 0 c) 4 t (idle4 t h) (noflush4 t h')
theorem leaves4_last (c : Dev nD) (t : Fin cfg0.N) (h : t.val % 7 = 6) : (dats m 0 c).leavesExact 4 t = owns (c : Thread nD τ) (ms0_4 t) fullShare (codesV m c) := by
  unfold Dat.leavesExact; rw [idle4 t (by omega), (flush0_4 t).mpr h, after0_4]
theorem leaves5_live (c : Dev nD) (t : Fin cfg0.N) (h : t.val % 7 = 0) : (dats m 0 c).leavesExact 5 t = owns (c : Thread nD τ) (ms0_5 t) fullShare (scalesV m c) := by
  unfold Dat.leavesExact; rw [live5 t h, after0_5]
theorem leaves5_idle (c : Dev nD) (t : Fin cfg0.N) (h : ¬t.val % 7 = 0) (h' : ¬t.val % 7 = 6) : (dats m 0 c).leavesExact 5 t = iprop(∃ d, owns (c : Thread nD τ) (ms0_5 t) fullShare ((dats m 0 c).before 5 t d)) :=
  Pipeline.Dat.leavesExact_idle (dats m 0 c) 5 t (idle5 t h) (noflush5 t h')
theorem leaves5_last (c : Dev nD) (t : Fin cfg0.N) (h : t.val % 7 = 6) : (dats m 0 c).leavesExact 5 t = owns (c : Thread nD τ) (ms0_5 t) fullShare (scalesV m c) := by
  unfold Dat.leavesExact; rw [idle5 t (by omega), (flush0_5 t).mpr h, after0_5]

set_option maxHeartbeats 1600000 in
/-- The first point. -/
theorem sound_first (c : Dev nD) (t : Fin cfg0.N) (h0 : t.val % 7 = 0) (h1 : ¬t.val % 7 = 6) (hz : t.val = 0) :
    bodyPre m c t ⊢ wp frame (wpE (defs₀ (F := F)) Variants.none c none) Set.univ (bodyAt0 t) (fun _ => bodyPost m c t) := by
  obtain rfl : t = t0 := Fin.ext hz
  unfold bodyPre bodyPost bodyAt0
  simp only [before0_0, before0_1, before0_2]
  rw [show (dats m 0 c).owesAt () t0.succ = (dats m 0 c).owesAt () t0.castSucc from rfl,
    show (dats m 0 c).Φ t0.succ = PhiS m c (t0.val + 1) t0.isLt from rfl, PhiS_succ, PhiS_castSucc m c t0, PhiS_zero m c _ _ hz, PhiA0_eq,
    leaves0, leaves1, leaves2, leaves3_idle m c t0 h1 h1, leaves4_live m c t0 h0, leaves5_live m c t0 h0, body_eq,
    if_pos ((hcond0_0 t0).mpr h0), if_neg (fun e => h1 ((hcond0_1 t0).mp e))]
  simp only [wp_bind]
  iintro ⟨⟨⟨HS0, HS1, HS2, HS3⟩, Hg⟩, Ho, ⟨%d0, H0⟩, ⟨%d1, H1⟩, ⟨%d2, H2⟩, H3, ⟨%d4, H4⟩, ⟨%d5, H5⟩⟩
  iapply (tripleQ c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 0 t0) (iblk m c 2 t0) Set.univ _)
  isplitl [H0]; · iexact H0
  isplitl [H2]; · iexact H2
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H2, H4, H5, HS0, HS1, HS2, HS3⟩
  iapply (tripleM c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) (iblk m c 1 t0) (lhsV m c) (xsV m c) (wsxV m c) (zeroV m c) Set.univ _)
  isplitl [H1]; · iexact H1
  isplitl [HS0]; · iexact HS0
  isplitl [HS1]; · iexact HS1
  isplitl [HS2]; · iexact HS2
  isplitl [HS3]; · iexact HS3
  iintro ⟨H1, HS0, HS1, HS2, HS3⟩
  sl_step
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- A point between the first and the last. -/
theorem sound_mid (c : Dev nD) (t : Fin cfg0.N) (h0 : ¬t.val % 7 = 0) (h1 : ¬t.val % 7 = 6) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = PhiS m c (t.val + 1) t.isLt from rfl, PhiS_succ, PhiS_castSucc m c t, PhiS_pos m c _ _ hz,
    leaves0, leaves1, leaves2, leaves3_idle m c t h1 h1, leaves4_idle m c t h0 h1, leaves5_idle m c t h0 h1, accV_pos m c t hz, body_eq,
    if_neg (fun e => h0 ((hcond0_0 t).mp e)), if_neg (fun e => h1 ((hcond0_1 t).mp e))]
  simp only [wp_bind]
  iintro ⟨⟨⟨HS0, HS1, HS2, HS3⟩, Hg⟩, Ho, ⟨%d0, H0⟩, ⟨%d1, H1⟩, ⟨%d2, H2⟩, H3, H4, H5⟩
  sl_step
  iapply (tripleM c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 1 t) (lhsV m c) (xsV m c) (wsxV m c) (accV m c (t.val - 1) (Nat.lt_of_le_of_lt (Nat.sub_le _ _) t.isLt)) Set.univ _)
  isplitl [H1]; · iexact H1
  isplitl [HS0]; · iexact HS0
  isplitl [HS1]; · iexact HS1
  isplitl [HS2]; · iexact HS2
  isplitl [HS3]; · iexact HS3
  iintro ⟨H1, HS0, HS1, HS2, HS3⟩
  sl_step
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The last point. -/
theorem sound_last (c : Dev nD) (t : Fin cfg0.N) (h0 : ¬t.val % 7 = 0) (h1 : t.val % 7 = 6) (hz : t.val ≠ 0) (h6 : t.val = 6) :
    bodyPre m c t ⊢ wp frame (wpE (defs₀ (F := F)) Variants.none c none) Set.univ (bodyAt0 t) (fun _ => bodyPost m c t) := by
  obtain rfl : t = t6 := Fin.ext h6
  unfold bodyPre bodyPost bodyAt0
  simp only [before0_0, before0_1, before0_2, before0_4 m c t6 hz, before0_5 m c t6 hz]
  rw [show (dats m 0 c).owesAt () t6.succ = (dats m 0 c).owesAt () t6.castSucc from rfl,
    show (dats m 0 c).Φ t6.succ = PhiS m c (t6.val + 1) t6.isLt from rfl, PhiS_succ, PhiS_castSucc m c t6, PhiS_pos m c _ _ hz,
    leaves0, leaves1, leaves2, leaves3_live m c t6 h1, leaves4_last m c t6 h1, leaves5_last m c t6 h1, body_eq,
    if_neg (fun e => h0 ((hcond0_0 t6).mp e)), if_pos ((hcond0_1 t6).mpr h1)]
  simp only [wp_bind]
  unfold yV
  rw [accV_pos m c t6 hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  sl_step
  iapply (tripleM c (grid0.coords t6) (ms0_0 t6) (hs0_0 t6) (ms0_1 t6) (hs0_1 t6) (ms0_2 t6) (hs0_2 t6) (ms0_3 t6) (hs0_3 t6) (ms0_4 t6) (hs0_4 t6) (ms0_5 t6) (hs0_5 t6) scM0_0 (Memref.isWhole_whole _) scM0_1 (Memref.isWhole_whole _) scM0_2 (Memref.isWhole_whole _) scM0_3 (Memref.isWhole_whole _) (iblk m c 1 t6) (lhsV m c) (xsV m c) (wsxV m c) (accV m c (t6.val - 1) (Nat.lt_of_le_of_lt (Nat.sub_le _ _) t6.isLt)) Set.univ _)
  isplitl [H1]; · iexact H1
  isplitl [HS0]; · iexact HS0
  isplitl [HS1]; · iexact HS1
  isplitl [HS2]; · iexact HS2
  isplitl [HS3]; · iexact HS3
  iintro ⟨H1, HS0, HS1, HS2, HS3⟩
  iapply (tripleY c (grid0.coords t6) (ms0_0 t6) (hs0_0 t6) (ms0_1 t6) (hs0_1 t6) (ms0_2 t6) (hs0_2 t6) (ms0_3 t6) (hs0_3 t6) (ms0_4 t6) (hs0_4 t6) (ms0_5 t6) (hs0_5 t6) scM0_0 (Memref.isWhole_whole _) scM0_1 (Memref.isWhole_whole _) scM0_2 (Memref.isWhole_whole _) scM0_3 (Memref.isWhole_whole _) (stepV m c t6 (accV m c (t6.val - 1) (Nat.lt_of_le_of_lt (Nat.sub_le _ _) t6.isLt))) Set.univ _)
  isplitl [H3]; · iexists _; iexact H3
  isplitl [HS3]; · iexact HS3
  iintro ⟨H3, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 7 := lt_of_lt_of_eq t.isLt (show cfg0.N = 7 from N_0)
  by_cases hz : t.val = 0
  · exact sound_first m c t (by omega) (by omega) hz
  · by_cases h6 : t.val = 6
    · exact sound_last m c t (by omega) (by omega) hz h6
    · exact sound_mid m c t (by omega) (by omega) hz

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 7 := N_0; omega)

/-! ## The run and the frame -/

set_option maxHeartbeats 800000 in
set_option backward.isDefEq.respectTransparency.types false in
/-- The launch: every execution ends with the arrays at the proof data's contents and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen.Own

end
-- ==== Proof.KernelFrame.lean ====
/- The frame of the kernel itself, which is the same program as the ideal one, at another instance. -/
module
public import proofs.«01_k».proof.Proof.OwnFrame
public import proofs.«01_k».proof.Proof.Gen.Kernel
public import Idealize.ShloMosaic.PureOps.BitExact

@[expose] public section

namespace Cert.Proof

open Idealize.ShloMosaic Idealize.SL.Sem

/-- The kernel terminates, leaves its arguments as they were and every counter at zero. -/
theorem kernelFrame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have h := Cert.KernelIdeal.Gen.Own.frame (F := Bits) m g
  refine Eq.mp ?_ h
  sl_kernel_rfl

end Cert.Proof

end
-- ==== Proof.QPieces.lean ====
/- What the first phase stores, as one family of pieces per operand. -/
module

public import proofs.«01_k».proof.Proof.Covers

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Lists of pieces counted down -/

/-- `f` at `n - 1, …, 0`. -/
def down {α : Type*} {N : ℕ} (f : Fin N → α) : (n : ℕ) → n ≤ N → List α
  | 0, _ => []
  | n + 1, h => f ⟨n, h⟩ :: down f n (Nat.le_of_succ_le h)

theorem mem_down {α : Type*} {N : ℕ} (f : Fin N → α) (p : α) : ∀ (n : ℕ) (h : n ≤ N), p ∈ down f n h → ∃ g, p = f g
  | 0, _, hp => absurd hp List.not_mem_nil
  | n + 1, h, hp => by
    rcases List.mem_cons.mp hp with hp | hp
    · exact ⟨_, hp⟩
    · exact mem_down f p n _ hp

/-! ## One group -/

theorem inbCol (g : Fin 56) : ∀ a, (![0, 128 * g.val] : Fin 2 → ℕ) a + S8x128.size a ≤ S8x7168.size a := by
  have := g.isLt
  intro a
  fin_cases a <;> simp [S8x128, S8x7168, Shape.ofList] <;> omega
theorem inbCol32 (g : Fin 56) : ∀ a, (![0, 128 * g.val] : Fin 2 → ℕ) a + S32x128.size a ≤ S32x7168.size a := by
  have := g.isLt
  intro a
  fin_cases a <;> simp [S32x128, S32x7168, Shape.ofList] <;> omega
theorem inbRow (g : Fin 56) : ∀ a, (![8 * g.val, 0] : Fin 2 → ℕ) a + S8x128.size a ≤ S448x128.size a := by
  have := g.isLt
  intro a
  fin_cases a <;> simp [S8x128, S448x128, Shape.ofList] <;> omega
theorem inbWs (n : Fin 210) : ∀ a, (![n.val % 7, 0, 128 * (n.val / 7)] : Fin 3 → ℕ) a + (![1, 8, 128] : Fin 3 → ℕ) a ≤ S7x8x3840.size a := by
  have := n.isLt
  intro a
  fin_cases a <;> simp [S7x8x3840, Shape.ofList] <;> omega
theorem slicesCol (n : Fin 210) : S56x30.Slices ![0, n.val / 7] S56x1 := by
  have := n.isLt
  refine ⟨rfl, fun a => ?_⟩
  fin_cases a <;> simp [S56x30, S56x1, Shape.ofList] <;> omega
theorem slicesRow (n : Fin 210) : S56x128.Slices ![8 * (n.val % 7), 0] S8x128 := by
  have := n.isLt
  refine ⟨rfl, fun a => ?_⟩
  fin_cases a <;> simp [S56x128, S8x128, Shape.ofList] <;> omega

/-- Group `g` of the activations. -/
def ld1 (arg1 : Memref sig .tc .vmem S8x7168 .bf16) (harg1 : arg1.IsWhole) (x1 : Vec F S8x7168 .bf16) (g : Fin 56) : Vec F S8x128 .bf16 :=
  View.readAt (Elt F) arg1.view (Rect.unit (s := S8x7168) ![0, 128 * g.val] S8x128.size (inbCol g)).toLoadRect (harg1.unread x1)

variable (xg : Vec F S8x128 .bf16)

/-- A group's exponents. -/
def gE : IVec S8x1 32 := k0_pay11 (k0_pay7 xg) (k0_pay8 xg) (k0_pay9 xg) (Scalar.ofBits .f32 0x00000000#32) (k0_pay10 (F := F))
/-- A group scaled and clipped. -/
def gClip : FVec F S8x128 .f32 := k0_pay12 (k0_pay6 xg) (k0_pay7 xg) (k0_pay8 xg) (k0_pay9 xg) (Scalar.ofBits .f32 0x00000000#32) (k0_pay10 (F := F))
/-- A group's scales. -/
def gScale : FVec F S8x1 .f32 := k0_pay13 (k0_pay7 xg) (k0_pay8 xg) (k0_pay9 xg) (Scalar.ofBits .f32 0x00000000#32) (k0_pay10 (F := F))
/-- A group's codes. -/
def gCode : FVec F S8x128 .fp8e4m3 := truncf .fp8e4m3 (gClip xg) bitsLt_fp8e4m3_f32
/-- A group's codes in the rows of its place `j` among four, zero in the others. -/
def gLhs (j : ℕ) : FVec F S32x128 .fp8e4m3 :=
  k0_pay17 (cmpi .eq (k0_pay3) (broadcast S32x128 (BitVec.ofNat 32 j)))
    (concatenate S32x128 0 [⟨S8x128, gClip xg⟩, ⟨S8x128, gClip xg⟩, ⟨S8x128, gClip xg⟩, ⟨S8x128, gClip xg⟩] concatenates_S8x128_S8x128_S8x128_S8x128_S32x128_d0)
    (Scalar.ofBits .f32 0x00000000#32)
/-- A group's scales, along the lanes. -/
def gXs : FVec F S8x128 .f32 := k0_pay18 (gScale xg)

/-- The scales of the first groups, each in its lane. -/
def lanes (x : Fin 56 → Vec F S8x128 .bf16) : (n : ℕ) → n ≤ 56 → FVec F S8x128 .f32
  | 0, _ => k0_pay4
  | n + 1, h =>
    select (cmpi .eq (iota .tc S8x128 32 [1] iota_S8x128_d1_w32) (broadcast S8x128 (BitVec.ofNat 32 n)))
      (broadcastTo S8x128 (shapeCast S8x1 (gScale (x ⟨n, h⟩)) shapeCasts_S8x1_S8x1) broadcasts_S8x1_S8x128) (lanes x n (Nat.le_of_succ_le h))

/-- The weight scales, transposed back. -/
def wsT (arg3 : Memref sig .tc .vmem S30x56 .f32) (harg3 : arg3.IsWhole) (x3 : Vec F S30x56 .f32) : FVec F S56x30 .f32 :=
  transpose S56x30 [1, 0] (shapeCast S30x56 (View.readAt (Elt F) arg3.view (Rect.unit (s := S30x56) ![0, 0] S30x56.size inb_S30x56_S30x56_0_0).toLoadRect (harg3.unread x3)) shapeCasts_S30x56_S30x56) transposes_S30x56_p1_0_S56x30

/-- The weight scales of one column block and eight groups, along the lanes. -/
def gWs (w : FVec F S56x30 .f32) (n : Fin 210) : FVec F S1x8x128 .f32 :=
  shapeCast S1x8x128 (extractStridedSlice S8x128 ![8 * (n.val % 7), 0]
    (broadcastTo S56x128 (shapeCast S56x1 (extractStridedSlice S56x1 ![0, n.val / 7] w (slicesCol n)) shapeCasts_S56x1_S56x1) broadcasts_S56x1_S56x128)
    (slicesRow n)) shapeCasts_S8x128_S1x8x128

/-! ## The pieces -/

set_option maxHeartbeats 4000000 in
theorem piecesQ5 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).1 =
      down (fun g => ⟨Rect.unit ![0, 128 * g.val] S8x128.size (inbCol g), gCode (ld1 arg1 harg1 x1 g)⟩) 56 le_rfl := by
  sl_kernel_rfl
set_option maxHeartbeats 4000000 in
theorem piecesQ6 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).2.1 =
      [⟨Rect.unit ![0, 0, 0] S8x1x56.size inb_S8x1x56_S8x1x56_0_0_0,
        shapeCast S8x1x56 (extractStridedSlice S8x56 ![0, 0] (lanes (ld1 arg1 harg1 x1) 56 le_rfl) slices_S8x128_o0_0_S8x56) shapeCasts_S8x56_S8x1x56⟩] := by
  sl_kernel_rfl
set_option maxHeartbeats 4000000 in
theorem piecesQ7 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).2.2.1 =
      down (fun g => ⟨Rect.unit ![0, 128 * g.val] S32x128.size (inbCol32 g), gLhs (ld1 arg1 harg1 x1 g) (g.val % 4)⟩) 56 le_rfl := by
  sl_kernel_rfl
set_option maxHeartbeats 4000000 in
theorem piecesQ8 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).2.2.2.1 =
      down (fun g => ⟨Rect.unit ![8 * g.val, 0] S8x128.size (inbRow g), gXs (ld1 arg1 harg1 x1 g)⟩) 56 le_rfl := by
  sl_kernel_rfl
set_option maxHeartbeats 4000000 in
theorem piecesQ9 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).2.2.2.2.1 =
      down (fun n => ⟨Rect.unit ![n.val % 7, 0, 128 * (n.val / 7)] ![1, 8, 128] (inbWs n), gWs (wsT arg3 harg3 x3) n⟩) 210 le_rfl := by
  sl_kernel_rfl
set_option maxHeartbeats 4000000 in
theorem piecesQ10 (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x1 : Vec F S8x7168 .bf16) (x3 : Vec F S30x56 .f32) :
    (runQ c i arg1 harg1 arg2 harg2 arg3 harg3 arg4 harg4 arg5 harg5 arg6 harg6 arg7 harg7 arg8 harg8 arg9 harg9 arg10 harg10 x1 x3).2.2.2.2.2.1 = [⟨Rect.unit ![0, 0] ![8, 3840] inb_S8x3840_S8x3840_0_0, k0_pay924⟩] := by
  sl_kernel_rfl

end Cert.KernelIdeal.Gen.Own

end
-- ==== Proof.Scalar.lean ====
/- The exponent of a power-of-two scale, three ways: by counting powers, by the logarithm, and as a word. -/
module
public import Idealize.ShloMosaic.PureOps.Ideal
public import Idealize.ShloMosaic.PureOps.Ideal.Laws
public import Mathlib.Analysis.SpecialFunctions.Log.Basic
public import Mathlib.Analysis.SpecialFunctions.Pow.Real
@[expose] public section
open Idealize.ShloMosaic
namespace Cert.KernelIdeal.Gen.Own

/-- The f32 word whose exponent field is `k + 1` and whose other bits are zero means `2 ^ (k - 126)`. -/
theorem ofBits_pow_of_toNat (b : BitVec 32) (k : ℕ) (hk : k < 254) (hb : b.toNat = (k + 1) * 8388608) :
    Ideal.ofBits .f32 b = (((2 : ℝ) ^ ((k : ℤ) - 126) : ℝ) : EReal) := by
  have h1 : (b.extractLsb' (8 + 23) 1 == 1#1) = false := by
    rw [beq_eq_false_iff_ne]
    intro h
    have := congrArg BitVec.toNat h
    rw [BitVec.extractLsb'_toNat, Nat.shiftRight_eq_div_pow] at this
    simp at this
    omega
  have h2 : (b.extractLsb' 23 8).toNat = k + 1 := by
    rw [BitVec.extractLsb'_toNat, Nat.shiftRight_eq_div_pow]
    omega
  have h3 : (b.extractLsb' 0 23).toNat = 0 := by
    rw [BitVec.extractLsb'_toNat, Nat.shiftRight_eq_div_pow]
    omega
  have h4 : ((k + 1 : ℕ) : ℤ) - (2 ^ (8 - 1) - 1) - (23 : ℕ) = ((k : ℤ) - 126) + (-23) := by push_cast; ring
  have h5 : ((1 : ℝ) * (2 ^ 23 + (0 : ℕ) : ℕ)) * (2 : ℝ) ^ (((k : ℤ) - 126) + (-23)) = (2 : ℝ) ^ ((k : ℤ) - 126) := by
    rw [zpow_add₀ (by norm_num), zpow_neg]
    have : (2 : ℝ) ^ (23 : ℤ) = 2 ^ 23 := by norm_cast
    rw [this]
    push_cast
    field_simp
    ring
  show Ideal.ieee 8 23 b = _
  unfold Ideal.ieee
  simp only [h1, h2, h3]
  rw [if_neg (by omega), if_neg (by omega), h4]
  exact congrArg _ h5

/-- The exponent of the greatest power of two that is at most `r`. -/
noncomputable def lg (r : ℝ) : ℤ := ⌊Real.log r * (Real.log 2)⁻¹⌋

theorem le_lg {r : ℝ} (hr : 0 < r) (z : ℤ) : (2 : ℝ) ^ z ≤ r ↔ z ≤ lg r := by
  have hl2 : (0 : ℝ) < Real.log 2 := Real.log_pos (by norm_num)
  rw [lg, Int.le_floor, ← div_eq_mul_inv, le_div_iff₀ hl2, ← Real.log_zpow, Real.log_le_log_iff (by positivity) hr]

/-- The exponent of the scale of a group, as an integer: of the `v` that is `2 ^ m ≤ v < 2 ^ (m + 1)` it is `m + 1`,
at most 126; below the least power `2 ^ -126`, and at the infinity, it is zero. -/
noncomputable def expo (v : EReal) : ℤ :=
  if v < (((2 : ℝ) ^ (-126 : ℤ) : ℝ) : EReal) ∨ v = ⊤ then 0 else min (lg v.toReal + 1) 126

theorem expo_bot : expo ⊥ = 0 := if_pos (Or.inl (EReal.bot_lt_coe _))

theorem expo_top : expo ⊤ = 0 := if_pos (Or.inr rfl)

theorem expo_small {r : ℝ} (h : r < (2 : ℝ) ^ (-126 : ℤ)) : expo r = 0 :=
  if_pos (Or.inl (EReal.coe_lt_coe_iff.mpr h))

theorem expo_big {r : ℝ} (h : ¬ r < (2 : ℝ) ^ (-126 : ℤ)) : expo r = min (lg r + 1) 126 := by
  have : ¬ ((r : EReal) < (((2 : ℝ) ^ (-126 : ℤ) : ℝ) : EReal) ∨ (r : EReal) = ⊤) := by
    rw [EReal.coe_lt_coe_iff]
    exact fun h' => h'.elim h (EReal.coe_ne_top r)
  rw [expo, if_neg this, EReal.toReal_coe]

theorem expo_range (v : EReal) : -125 ≤ expo v ∧ expo v ≤ 126 := by
  induction v with
  | bot => rw [expo_bot]; omega
  | top => rw [expo_top]; omega
  | coe r =>
    by_cases h : r < (2 : ℝ) ^ (-126 : ℤ)
    · rw [expo_small h]; omega
    · have h' := not_lt.mp h
      have hr : 0 < r := lt_of_lt_of_le (by positivity) h'
      rw [expo_big h]
      have : (-126 : ℤ) ≤ lg r := (le_lg hr _).mp h'
      omega

/-- The number of powers `2 ^ -126, …, 2 ^ 125` that are at most `v`. -/
noncomputable def cnt (v : EReal) : ℕ :=
  (Finset.univ.filter fun k : Fin 252 => (((2 : ℝ) ^ ((k : ℤ) - 126) : ℝ) : EReal) ≤ v).card

theorem cnt_bot : cnt ⊥ = 0 := by
  simp [cnt]

theorem cnt_small {r : ℝ} (h : r < (2 : ℝ) ^ (-126 : ℤ)) : cnt r = 0 := by
  simp only [cnt, Finset.card_eq_zero, Finset.filter_eq_empty_iff, EReal.coe_le_coe_iff, not_le]
  intro k _
  refine lt_of_lt_of_le h (zpow_le_zpow_right₀ (by norm_num) (by omega))

theorem cnt_eq {r : ℝ} (h : (2 : ℝ) ^ (-126 : ℤ) ≤ r) : (cnt r : ℤ) = min (lg r + 1) 126 + 126 := by
  have hr : 0 < r := lt_of_lt_of_le (by positivity) h
  have hm : (-126 : ℤ) ≤ lg r := (le_lg hr _).mp h
  have hk (k : Fin 252) : ((((2 : ℝ) ^ ((k : ℤ) - 126) : ℝ) : EReal) ≤ (r : EReal)) ↔
      k.val < (min (lg r + 1) 126 + 126).toNat := by
    rw [EReal.coe_le_coe_iff]
    rw [le_lg hr]
    have := k.isLt
    omega
  have hc : (min (lg r + 1) 126 + 126).toNat ≤ 252 := by omega
  rw [cnt, Finset.filter_congr fun k _ => hk k]
  have : (Finset.univ.filter fun k : Fin 252 => k.val < (min (lg r + 1) 126 + 126).toNat).card
      = (min (lg r + 1) 126 + 126).toNat := by
    rw [Fin.card_filter_val_lt]
    omega
  rw [this]
  omega

/-- What the kernel computes from the count. -/
theorem expo_of_cnt (v : EReal) : (if cnt v = 0 ∨ v = ⊤ then 0 else (cnt v : ℤ) - 126) = expo v := by
  induction v with
  | bot => rw [cnt_bot, expo_bot, if_pos (Or.inl rfl)]
  | top => rw [expo_top, if_pos (Or.inr rfl)]
  | coe r =>
    by_cases h : r < (2 : ℝ) ^ (-126 : ℤ)
    · rw [cnt_small h, expo_small h, if_pos (Or.inl rfl)]
    · have h2 := cnt_eq (not_lt.mp h)
      have h3 := expo_range r
      rw [expo_big h] at h3 ⊢
      rw [if_neg (fun h' => h'.elim (by omega) (EReal.coe_ne_top r)), h2]
      omega

theorem cnt_le (v : EReal) : cnt v ≤ 252 := (Finset.card_filter_le _ _).trans (by simp)

/-- What the reference computes from the logarithm. -/
theorem expo_of_log (v : EReal) :
    (if v < (((2 : ℝ) ^ (-126 : ℤ) : ℝ) : EReal) ∨ v = ⊤ then (0 : EReal) else
      min (Ideal.liftRound Int.floor (Ideal.div (Ideal.log v) (Ideal.log 2)) + 1) ((126 : ℝ) : EReal)) = ((expo v : ℝ) : EReal) := by
  induction v with
  | bot => rw [expo_bot, if_pos (Or.inl (EReal.bot_lt_coe _))]; simp
  | top => rw [expo_top, if_pos (Or.inr rfl)]; simp
  | coe r =>
    by_cases h : r < (2 : ℝ) ^ (-126 : ℤ)
    · rw [if_pos (Or.inl (EReal.coe_lt_coe_iff.mpr h)), expo_small h]; simp
    · have h' := not_lt.mp h
      have hr : 0 < r := lt_of_lt_of_le (by positivity) h'
      rw [if_neg (fun h'' => h''.elim (fun h3 => h (EReal.coe_lt_coe_iff.mp h3)) (EReal.coe_ne_top r))]
      have hl2 : (0 : ℝ) < Real.log 2 := Real.log_pos (by norm_num)
      have e1 : Ideal.log (r : EReal) = (Real.log r : EReal) := by
        exact if_neg (not_le.mpr hr)
      have e2 : Ideal.log (2 : EReal) = (Real.log 2 : EReal) := by
        have : (2 : EReal) = ((2 : ℝ) : EReal) := rfl
        rw [this]
        exact if_neg (not_le.mpr (show (0 : ℝ) < 2 by norm_num))
      have e3 : Ideal.div (Real.log r : EReal) (Real.log 2 : EReal) = ((Real.log r * (Real.log 2)⁻¹ : ℝ) : EReal) := by
        rw [Ideal.div, if_neg (by exact_mod_cast hl2.ne')]
        norm_cast
      rw [e1, e2, e3]
      have e4 : Ideal.liftRound Int.floor ((Real.log r * (Real.log 2)⁻¹ : ℝ) : EReal) = ((lg r : ℝ) : EReal) := rfl
      rw [e4]
      rw [expo_big h]
      have : (1 : EReal) = ((1 : ℝ) : EReal) := rfl
      rw [this, ← EReal.coe_add, ← EReal.coe_strictMono.monotone.map_min]
      push_cast
      rfl

/-- The reference's power of two at an integer exponent. -/
theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

/-- The kernel's power of two: the word `(e + 127) << 23`. -/
theorem ofBits_shl (b : BitVec 32) (e : ℤ) (hb : b = BitVec.ofInt 32 e) (h1 : -126 ≤ e) (h2 : e ≤ 127) :
    Ideal.ofBits .f32 ((b + 127#32) <<< (23 : ℕ)) = (((2 : ℝ) ^ e : ℝ) : EReal) := by
  obtain ⟨k, rfl⟩ : ∃ k : ℕ, e = (k : ℤ) - 126 := ⟨(e + 126).toNat, by omega⟩
  have hk : k < 254 := by omega
  have hb' : b + 127#32 = BitVec.ofNat 32 (k + 1) := by
    rw [hb]
    have : (127#32) = BitVec.ofInt 32 127 := by decide
    rw [this, ← BitVec.ofInt_add, ← BitVec.ofInt_natCast]
    congr 1
    push_cast
    ring
  rw [hb']
  apply ofBits_pow_of_toNat _ k hk
  simp only [BitVec.toNat_shiftLeft, BitVec.toNat_ofNat, Nat.shiftLeft_eq]
  omega

end Cert.KernelIdeal.Gen.Own
-- ==== Proof.Group.lean ====
/- What one group of 128 activations becomes, over the extended reals. -/
module

public import proofs.«01_k».proof.Proof.QPieces
public import proofs.«01_k».proof.Proof.Scalar
public import Idealize.ShloMosaic.Lib.Pointwise
public import Idealize.ShloMosaic.Lib.IdealHost
public import Idealize.ShloMosaic.PureOps.Ideal.Laws

@[expose] public section

noncomputable section

namespace Cert.Spec

open Idealize.ShloMosaic Cert.KernelIdeal.Gen.Own

/-! ## The quantiser of one group -/

/-- The largest magnitude. -/
def amx (f : Fin 128 → EReal) : EReal :=
  Finset.univ.fold max (Ideal.ofBits .f32 0xFF800000#32) fun l => (FloatOps.absf (F := Ideal) (φ := .f32) (f l))

/-- The exponent of the scale. -/
def ex (f : Fin 128 → EReal) : ℤ := if amx f = 0 then 0 else expo (amx f * Ideal.ofBits .f32 0x3B124925#32)

theorem ex_range (f : Fin 128 → EReal) : -125 ≤ ex f ∧ ex f ≤ 126 := by
  unfold ex
  split
  · omega
  · exact expo_range _

/-- The scale. -/
def scl (f : Fin 128 → EReal) : EReal := (((2 : ℝ) ^ ex f : ℝ) : EReal)

/-- The scaled and clipped value of lane `l`. -/
def clp (f : Fin 128 → EReal) (l : Fin 128) : EReal :=
  min (Ideal.ofBits .f32 0x43E00000#32) (max (Ideal.ofBits .f32 0xC3E00000#32) (f l * (((2 : ℝ) ^ (-ex f) : ℝ) : EReal)))

/-! ## Words -/

theorem shl23 (x : BitVec 32) : IntOp.shli .vector x 23#32 = x <<< (23 : ℕ) := by
  unfold IntOp.shli
  rw [if_pos (by decide)]
  rfl

/-- The word of the power `k` of the table. -/
theorem table_toNat : ∀ k : Fin 252, (IntOp.shli .vector (IntOp.addi (BitVec.ofNat 32 k.val) 1#32) 23#32).toNat = (k.val + 1) * 8388608 := by
  decide +kernel

theorem table_val (k : Fin 252) :
    Ideal.ofBits .f32 (IntOp.shli .vector (IntOp.addi (BitVec.ofNat 32 k.val) 1#32) 23#32) = (((2 : ℝ) ^ ((k.val : ℤ) - 126) : ℝ) : EReal) :=
  ofBits_pow_of_toNat _ k.val (by have := k.isLt; omega) (table_toNat k)

/-! ## Constants -/

theorem ofBits_inf_f32 : Ideal.ofBits .f32 0x7F800000#32 = ⊤ := by
  simp [Ideal.ofBits, Ideal.ieee]

theorem ofBits_two_f32 : Ideal.ofBits .f32 0x40000000#32 = ((2 : ℝ) : EReal) := by
  simp [Ideal.ofBits, Ideal.ieee, -EReal.coe_mul]; norm_num

theorem ofBits_126_f32 : Ideal.ofBits .f32 0x42FC0000#32 = ((126 : ℝ) : EReal) := by
  simp [Ideal.ofBits, Ideal.ieee, -EReal.coe_mul]; norm_num

theorem ofBits_least_f32 : Ideal.ofBits .f32 0x00800000#32 = (((2 : ℝ) ^ (-126 : ℤ) : ℝ) : EReal) := by
  have := ofBits_pow_of_toNat 0x00800000#32 0 (by norm_num) (by decide)
  simpa using this

/-- The exponent's word from the count and a condition. -/
theorem select_word : ∀ (k : Fin 253) (b : Bool),
    Scalar.select (IntOp.ori (IntOp.cmpi .eq (BitVec.ofNat 32 k.val) 0#32) (BitVec.ofBool b)) (0#32) (IntOp.subi (BitVec.ofNat 32 k.val) 126#32)
      = BitVec.ofInt 32 (if k.val = 0 ∨ b = true then 0 else (k.val : ℤ) - 126) := by
  decide +kernel

/-- A small natural number, converted to a word. -/
theorem fptosi_nat (n : ℕ) (h : n ≤ 252) : FloatOps.fptosi (F := Ideal) (φ := .f32) 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  have e1 : max (-((2 ^ (32 - 1) : ℕ) : ℤ)) (min (((2 ^ (32 - 1) : ℕ) : ℤ) - 1) (n : ℤ)) = (n : ℤ) := by
    norm_num
    omega
  rw [e1, BitVec.ofInt_natCast]

/-- The table's entries that are at most `v`, counted by a sum. -/
theorem sum_select (v : EReal) :
    (∑ x : Fin 252, Scalar.select (BitVec.ofBool (decide ((((2 : ℝ) ^ ((x.val : ℤ) - 126) : ℝ) : EReal) ≤ v))) (1 : EReal) 0) = ((cnt v : ℝ) : EReal) := by
  have h : ∀ x : Fin 252, Scalar.select (BitVec.ofBool (decide ((((2 : ℝ) ^ ((x.val : ℤ) - 126) : ℝ) : EReal) ≤ v))) (1 : EReal) 0
      = if (((2 : ℝ) ^ ((x.val : ℤ) - 126) : ℝ) : EReal) ≤ v then 1 else 0 := by
    intro x
    by_cases hx : (((2 : ℝ) ^ ((x.val : ℤ) - 126) : ℝ) : EReal) ≤ v <;> simp [Scalar.select, hx]
  rw [Finset.sum_congr rfl fun x _ => h x, Finset.sum_boole]
  rfl

end Cert.Spec

namespace Cert.KernelIdeal.Gen.Own

open Idealize.ShloMosaic Cert.Spec

/-! ## The kernel's payloads of one group, at an index -/

/-- Row `t` of a block of 128 columns. -/
def row (xg : Vec Ideal S8x128 .bf16) (t : Fin 8) : Fin 128 → EReal := fun l => xg (ix2 t l)

variable (xg : Vec Ideal S8x128 .bf16) (t : Fin 8)

theorem pay7_apply : k0_pay7 (F := Ideal) xg (ix2 t 0) = amx (row xg t) := by
  pointwise [k0_pay7, k0_pay6]
  rfl

theorem pay8_apply : k0_pay8 (F := Ideal) xg (ix2 t 0) = amx (row xg t) * Ideal.ofBits .f32 0x3B124925#32 := by
  pointwise [k0_pay8]
  rw [pay7_apply]

theorem pay9_apply (n : Fin 252) : k0_pay9 (F := Ideal) xg (ix2 t n)
    = BitVec.ofBool (decide ((((2 : ℝ) ^ ((n.val : ℤ) - 126) : ℝ) : EReal) ≤ amx (row xg t) * Ideal.ofBits .f32 0x3B124925#32)) := by
  pointwise [k0_pay9, k0_pay5]
  rw [table_val n, pay8_apply]

theorem gE_apply : gE (F := Ideal) xg (ix2 t 0) = BitVec.ofInt 32 (ex (row xg t)) := by
  pointwise [gE, k0_pay11, k0_pay10]
  rw [pay7_apply, pay8_apply]
  unfold ex
  by_cases h0 : amx (row xg t) = 0
  · rw [if_pos h0, if_pos h0]
    rfl
  rw [if_neg h0, if_neg h0]
  generalize hv : amx (row xg t) * Ideal.ofBits .f32 0x3B124925#32 = v
  have hs : (∑ x : Fin 252, Scalar.select (k0_pay9 (F := Ideal) xg (ix2 t x)) (1 : EReal) 0) = ((cnt v : ℝ) : EReal) := by
    rw [← sum_select v]
    refine Finset.sum_congr rfl fun x _ => ?_
    rw [pay9_apply, hv]
  rw [hs, fptosi_nat _ (cnt_le v), ofBits_inf_f32]
  have := select_word ⟨cnt v, Nat.lt_succ_of_le (cnt_le v)⟩ (decide (v = ⊤))
  simp only [decide_eq_true_eq] at this
  rw [this, expo_of_cnt]

theorem gScale_apply : gScale (F := Ideal) xg (ix2 t 0) = scl (row xg t) := by
  have hE := gE_apply xg t
  have hr := ex_range (row xg t)
  pointwise [gScale, k0_pay13]
  unfold gE at hE
  simp only [Scalar.ofBits, Ideal.ofBits_def, Ideal.ofBits_zero_f32] at hE
  rw [hE, shl23]
  exact ofBits_shl _ _ rfl (by omega) (by omega)

theorem gClip_apply (l : Fin 128) : gClip (F := Ideal) xg (ix2 t l) = clp (row xg t) l := by
  have hE := gE_apply xg t
  have hr := ex_range (row xg t)
  pointwise [gClip, k0_pay12, k0_pay6]
  unfold gE at hE
  simp only [Scalar.ofBits, Ideal.ofBits_def, Ideal.ofBits_zero_f32] at hE
  rw [hE, shl23]
  unfold clp
  rw [← ofBits_shl (IntOp.subi 0#32 (BitVec.ofInt 32 (ex (row xg t)))) (-ex (row xg t)) (by simp [IntOp.subi, BitVec.ofInt_neg]) (by omega) (by omega)]
  rfl

theorem gXs_apply (l : Fin 128) : gXs (F := Ideal) xg (ix2 t l) = scl (row xg t) := by
  pointwise [gXs, k0_pay18]
  exact gScale_apply xg t

theorem gWs_apply (w : FVec Ideal S56x30 .f32) (n : Fin 210) (a : Fin 8) (l : Fin 128) :
    gWs (F := Ideal) w n (ix3 0 a l) = w (ix2 ⟨8 * (n.val % 7) + a.val, by omega⟩ ⟨n.val / 7, by omega⟩) := by
  pointwise [gWs]

/-- The row groups' numbers. -/
theorem rowgroup : ∀ r : Fin 32, (k0_pay3 (ix2 r (0 : Fin 128))).toNat = r.val / 8 := by
  decide +kernel

end Cert.KernelIdeal.Gen.Own

end
-- ==== Proof.QValues.lean ====
/- What the first phase leaves, over the extended reals, element by element. -/
module

public import proofs.«01_k».proof.Proof.Group
public import Idealize.ShloMosaic.Lib.Pipeline.ValueKit.Geometry

@[expose] public section

noncomputable section

namespace Cert.Spec

open Idealize.ShloMosaic

/-- The group and the lane of a column. -/
def gOf (j : Fin 7168) : Fin 56 := ⟨j.val / 128, by omega⟩
def lOf (j : Fin 7168) : Fin 128 := ⟨j.val % 128, Nat.mod_lt _ (by norm_num)⟩
/-- Column `l` of group `g`. -/
def col (g : Fin 56) (l : Fin 128) : Fin 7168 := ⟨128 * g.val + l.val, by omega⟩
theorem gOf_of (j : Fin 7168) (g : Fin 56) (l : Fin 128) (h : j.val = 128 * g.val + l.val) : gOf j = g :=
  Fin.ext (by show j.val / 128 = g.val; omega)
theorem lOf_of (j : Fin 7168) (g : Fin 56) (l : Fin 128) (h : j.val = 128 * g.val + l.val) : lOf j = l :=
  Fin.ext (by show j.val % 128 = l.val; omega)
/-- The row of eight, among rows of several eights. -/
def r8 {n : ℕ} (r : Fin n) : Fin 8 := ⟨r.val % 8, Nat.mod_lt _ (by norm_num)⟩

/-- Group `g` of row `t` of the activations. -/
def grp (x : (⟨2, ![8, 7168]⟩ : Shape).Idx → EReal) (t : Fin 8) (g : Fin 56) : Fin 128 → EReal := fun l => x (ix2 t (col g l))

end Cert.Spec

namespace Cert.KernelIdeal.Gen.Own

open Idealize.ShloMosaic Idealize.ShloMosaic.ValueKit Cert.Spec

/-! ## Reading a slice of a buffer -/

theorem readUnit {S : Shape} {e : EltTy} (M : Memref sig .tc .vmem S e) (hM : M.IsWhole) (X : Vec Ideal S e) (off size : Fin S.rank → ℕ)
    (inb : ∀ a, off a + size a ≤ S.size a) (j : (Rect.unit off size inb).shape.Idx) (k : S.Idx) (hk : ∀ a, (k a).val = off a + (j a).val) :
    View.readAt (Elt Ideal) M.view (Rect.unit off size inb).toLoadRect (hM.unread X) j = X k := by
  rw [View.readAt_eq_ld, hM.read_unread]
  exact congrArg X (funext fun a => Fin.ext (by rw [hk a]; exact rect_emb_unit_val off size inb j a))

variable (arg1 : Memref sig .tc .vmem S8x7168 .bf16) (harg1 : arg1.IsWhole) (x1 : Vec Ideal S8x7168 .bf16)

theorem row_ld1 (g : Fin 56) (t : Fin 8) : row (ld1 arg1 harg1 x1 g) t = grp x1 t g := by
  funext l
  refine readUnit arg1 harg1 x1 _ _ _ _ _ fun a => ?_
  fin_cases a
  · show t.val = 0 + t.val; omega
  · rfl

/-! ## The payloads that stand several groups together -/

theorem iota_eq (l : Fin 128) (n : ℕ) (hn : n < 128) : IntOp.cmpi .eq (BitVec.ofNat 32 l.val) (BitVec.ofNat 32 n) = BitVec.ofBool (decide (l.val = n)) := by
  show BitVec.ofBool (BitVec.ofNat 32 l.val == BitVec.ofNat 32 n) = _
  congr 1
  rw [Bool.eq_iff_iff, beq_iff_eq, decide_eq_true_iff]
  refine ⟨fun h => ?_, fun h => by rw [h]⟩
  have := congrArg BitVec.toNat h
  simp only [BitVec.toNat_ofNat] at this
  omega

theorem lanes_apply (x : Fin 56 → Vec Ideal S8x128 .bf16) (t : Fin 8) : ∀ (n : ℕ) (h : n ≤ 56) (l : Fin 128) (hl : l.val < n),
    lanes (F := Ideal) x n h (ix2 t l) = scl (row (x ⟨l.val, lt_of_lt_of_le hl h⟩) t)
  | 0, _, _, hl => absurd hl (Nat.not_lt_zero _)
  | n + 1, h, l, hl => by
    have ih := lanes_apply x t n (Nat.le_of_succ_le h) l
    pointwise [lanes]
    rw [iota_eq l n (by omega)]
    by_cases e : l.val = n
    · subst e
      simp only [decide_true, Scalar.select, BitVec.ofBool_true, if_true]
      exact gScale_apply _ _
    · simp only [e, decide_false, Scalar.select, BitVec.ofBool_false]
      exact ih (by omega)

theorem rowgroup_word : ∀ (r : Fin 32) (l : Fin 128), k0_pay3 (ix2 r l) = BitVec.ofNat 32 (r.val / 8) := by
  intro r l
  have : ∀ r : Fin 32, k0_pay3 (ix2 r (0 : Fin 128)) = BitVec.ofNat 32 (r.val / 8) := by decide +kernel
  exact this r

theorem gLhs_apply (xg : Vec Ideal S8x128 .bf16) (j : Fin 4) (r : Fin 32) (l : Fin 128) : gLhs (F := Ideal) xg j.val (ix2 r l)
    = if r.val / 8 = j.val then clp (row xg (r8 r)) l else 0 := by
  pointwise [gLhs, k0_pay17]
  rw [rowgroup_word, iota_eq ⟨r.val / 8, by omega⟩ j.val (by omega)]
  by_cases e : r.val / 8 = j.val
  · simp only [e, decide_true, Scalar.select, BitVec.ofBool_true, if_true]
    simp only [gClip_apply]
    have e1 : ∀ (k : ℕ) (hk : k < 8), k = r.val % 8 → clp (row xg ⟨k, hk⟩) l = clp (row xg (r8 r)) l := by
      intro k hk h
      congr 2
      exact Fin.ext h
    split
    · exact e1 _ _ (by omega)
    split
    · exact e1 _ _ (by omega)
    split
    · exact e1 _ _ (by omega)
    · exact e1 _ _ (by omega)
  · simp [e, Scalar.select]

variable (arg3 : Memref sig .tc .vmem S30x56 .f32) (harg3 : arg3.IsWhole) (x3 : Vec Ideal S30x56 .f32)

theorem wsT_apply (s : Fin 56) (k : Fin 30) : wsT arg3 harg3 x3 (ix2 s k) = x3 (ix2 k s) := by
  pointwise [wsT]
  refine readUnit arg3 harg3 x3 _ _ _ _ _ fun a => ?_
  fin_cases a
  · show k.val = 0 + k.val; omega
  · show s.val = 0 + s.val; omega

/-! ## The buffers -/

/-- The codes. -/
def codesOf (y : S8x7168.Idx) : EReal := clp (grp x1 (y 0) (gOf (y 1))) (lOf (y 1))
/-- The scales. -/
def scalesOf (y : S8x1x56.Idx) : EReal := scl (grp x1 (y 0) (y 2))
/-- The codes stacked: group `g` in the rows of its place among four. -/
def lhsOf (y : S32x7168.Idx) : EReal :=
  if (y 0).val / 8 = (gOf (y 1)).val % 4 then clp (grp x1 (r8 (y 0)) (gOf (y 1))) (lOf (y 1)) else 0
/-- The scales along the lanes, group by group. -/
def xsOf (y : S448x128.Idx) : EReal := scl (grp x1 (r8 (y 0)) ⟨(y 0).val / 8, by have : (y 0).val < 448 := (y 0).isLt; omega⟩)
/-- The weight scales along the columns. -/
def wsxOf (y : S7x8x3840.Idx) : EReal :=
  x3 (ix2 ⟨(y 2).val / 128, by have : (y 2).val < 3840 := (y 2).isLt; omega⟩
    ⟨8 * (y 0).val + (y 1).val, by have h0 : (y 0).val < 7 := (y 0).isLt; have h1 : (y 1).val < 8 := (y 1).isLt; omega⟩)

theorem outQ5_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ5 (F := Ideal) c i arg1 harg1 arg2 harg2 arg3 harg3 arg4 harg4 arg5 harg5 arg6 harg6 arg7 harg7 arg8 harg8 arg9 harg9 arg10 harg10 x1 x3 y = codesOf x1 y := by
  unfold outQ5
  refine View.canon_apply_of_pieces (codesOf x1) _ ?_ y (coverQ5 c i arg1 harg1 arg2 harg2 arg3 harg3 arg4 harg4 arg5 harg5 arg6 harg6 arg7 harg7 arg8 harg8 arg9 harg9 arg10 harg10 x1 x3 y)
  rw [piecesQ5]
  intro p hp x
  obtain ⟨g, rfl⟩ := mem_down _ _ _ _ hp
  obtain ⟨t, l, rfl⟩ : ∃ (t : Fin 8) (l : Fin 128), x = ix2 t l := ⟨x 0, x 1, eq_ix2 x⟩
  have h0 : (Rect.unit (s := S8x7168) ![0, 128 * g.val] S8x128.size (inbCol g)).emb (ix2 t l) 0 = t :=
    Fin.ext ((rect_emb_unit_val _ _ _ _ _).trans (by show 0 + t.val = t.val; omega))
  have h1 : ((Rect.unit (s := S8x7168) ![0, 128 * g.val] S8x128.size (inbCol g)).emb (ix2 t l) 1).val = 128 * g.val + l.val :=
    rect_emb_unit_val _ _ _ _ _
  show gClip (ld1 arg1 harg1 x1 g) (ix2 t l) = codesOf x1 _
  unfold codesOf
  rw [h0, gOf_of _ g l h1, lOf_of _ g l h1, gClip_apply, row_ld1]

theorem outQ6_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ6 (F := Ideal) c i arg1 harg1 arg2 harg2 arg3 harg3 arg4 harg4 arg5 harg5 arg6 harg6 arg7 harg7 arg8 harg8 arg9 harg9 arg10 harg10 x1 x3 y = scalesOf x1 y := by
  unfold outQ6
  refine View.canon_apply_of_pieces (scalesOf x1) _ ?_ y (coverQ6 c i arg1 harg1 arg2 harg2 arg3 harg3 arg4 harg4 arg5 harg5 arg6 harg6 arg7 harg7 arg8 harg8 arg9 harg9 arg10 harg10 x1 x3 y)
  rw [piecesQ6]
  intro p hp x
  rw [List.mem_singleton] at hp
  subst hp
  obtain ⟨t, z, l, rfl⟩ : ∃ (t : Fin 8) (z : Fin 1) (l : Fin 56), x = ix3 t z l := ⟨x 0, x 1, x 2, eq_ix3 x⟩
  obtain rfl : z = 0 := Subsingleton.elim _ _
  have h0 : (Rect.unit (s := S8x1x56) ![0, 0, 0] S8x1x56.size inb_S8x1x56_S8x1x56_0_0_0).emb (ix3 t 0 l) 0 = t :=
    Fin.ext ((rect_emb_unit_val _ _ _ _ _).trans (by show 0 + t.val = t.val; omega))
  have h2 : (Rect.unit (s := S8x1x56) ![0, 0, 0] S8x1x56.size inb_S8x1x56_S8x1x56_0_0_0).emb (ix3 t 0 l) 2 = l :=
    Fin.ext ((rect_emb_unit_val _ _ _ _ _).trans (by show 0 + l.val = l.val; omega))
  have e : shapeCast S8x1x56 (extractStridedSlice S8x56 ![0, 0] (lanes (ld1 arg1 harg1 x1) 56 le_rfl) slices_S8x128_o0_0_S8x56) shapeCasts_S8x56_S8x1x56 (ix3 t 0 l)
      = lanes (ld1 arg1 harg1 x1) 56 le_rfl (ix2 t ⟨l.val, by omega⟩) := by
    pointwise
  refine e.trans ?_
  unfold scalesOf
  rw [h0, h2, lanes_apply _ _ _ _ _ l.isLt, row_ld1]

theorem outQ7_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ7 (F := Ideal) c i arg1 harg1 arg2 harg2 arg3 harg3 arg4 harg4 arg5 harg5 arg6 harg6 arg7 harg7 arg8 harg8 arg9 harg9 arg10 harg10 x1 x3 y = lhsOf x1 y := by
  unfold outQ7
  refine View.canon_apply_of_pieces (lhsOf x1) _ ?_ y (coverQ7 c i arg1 harg1 arg2 harg2 arg3 harg3 arg4 harg4 arg5 harg5 arg6 harg6 arg7 harg7 arg8 harg8 arg9 harg9 arg10 harg10 x1 x3 y)
  rw [piecesQ7]
  intro p hp x
  obtain ⟨g, rfl⟩ := mem_down _ _ _ _ hp
  obtain ⟨t, l, rfl⟩ : ∃ (t : Fin 32) (l : Fin 128), x = ix2 t l := ⟨x 0, x 1, eq_ix2 x⟩
  have h0 : (Rect.unit (s := S32x7168) ![0, 128 * g.val] S32x128.size (inbCol32 g)).emb (ix2 t l) 0 = t :=
    Fin.ext ((rect_emb_unit_val _ _ _ _ _).trans (by show 0 + t.val = t.val; omega))
  have h1 : ((Rect.unit (s := S32x7168) ![0, 128 * g.val] S32x128.size (inbCol32 g)).emb (ix2 t l) 1).val = 128 * g.val + l.val :=
    rect_emb_unit_val _ _ _ _ _
  show gLhs (ld1 arg1 harg1 x1 g) (g.val % 4) (ix2 t l) = lhsOf x1 _
  unfold lhsOf
  rw [h0, gOf_of _ g l h1, lOf_of _ g l h1]
  have := gLhs_apply (ld1 arg1 harg1 x1 g) ⟨g.val % 4, Nat.mod_lt _ (by norm_num)⟩ t l
  rw [row_ld1] at this
  exact this

theorem outQ8_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ8 (F := Ideal) c i arg1 harg1 arg2 harg2 arg3 harg3 arg4 harg4 arg5 harg5 arg6 harg6 arg7 harg7 arg8 harg8 arg9 harg9 arg10 harg10 x1 x3 y = xsOf x1 y := by
  unfold outQ8
  refine View.canon_apply_of_pieces (xsOf x1) _ ?_ y (coverQ8 c i arg1 harg1 arg2 harg2 arg3 harg3 arg4 harg4 arg5 harg5 arg6 harg6 arg7 harg7 arg8 harg8 arg9 harg9 arg10 harg10 x1 x3 y)
  rw [piecesQ8]
  intro p hp x
  obtain ⟨g, rfl⟩ := mem_down _ _ _ _ hp
  obtain ⟨t, l, rfl⟩ : ∃ (t : Fin 8) (l : Fin 128), x = ix2 t l := ⟨x 0, x 1, eq_ix2 x⟩
  have h0 : ((Rect.unit (s := S448x128) ![8 * g.val, 0] S8x128.size (inbRow g)).emb (ix2 t l) 0).val = 8 * g.val + t.val :=
    rect_emb_unit_val _ _ _ _ _
  show gXs (ld1 arg1 harg1 x1 g) (ix2 t l) = xsOf x1 _
  unfold xsOf
  rw [gXs_apply, row_ld1]
  congr 2
  · exact Fin.ext (by show t.val = _ % 8; rw [h0]; omega)
  · exact Fin.ext (by show g.val = _ / 8; rw [h0]; omega)

theorem outQ9_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ9 (F := Ideal) c i arg1 harg1 arg2 harg2 arg3 harg3 arg4 harg4 arg5 harg5 arg6 harg6 arg7 harg7 arg8 harg8 arg9 harg9 arg10 harg10 x1 x3 y = wsxOf x3 y := by
  unfold outQ9
  refine View.canon_apply_of_pieces (wsxOf x3) _ ?_ y (coverQ9 c i arg1 harg1 arg2 harg2 arg3 harg3 arg4 harg4 arg5 harg5 arg6 harg6 arg7 harg7 arg8 harg8 arg9 harg9 arg10 harg10 x1 x3 y)
  rw [piecesQ9]
  intro p hp x
  obtain ⟨n, rfl⟩ := mem_down _ _ _ _ hp
  obtain ⟨z, a, l, rfl⟩ : ∃ (z : Fin 1) (a : Fin 8) (l : Fin 128), x = ix3 z a l := ⟨x 0, x 1, x 2, eq_ix3 x⟩
  obtain rfl : z = 0 := Subsingleton.elim _ _
  have h0 : ((Rect.unit (s := S7x8x3840) ![n.val % 7, 0, 128 * (n.val / 7)] ![1, 8, 128] (inbWs n)).emb (ix3 0 a l) 0).val = n.val % 7 :=
    (rect_emb_unit_val _ _ _ _ _).trans (by show n.val % 7 + 0 = n.val % 7; omega)
  have h1 : ((Rect.unit (s := S7x8x3840) ![n.val % 7, 0, 128 * (n.val / 7)] ![1, 8, 128] (inbWs n)).emb (ix3 0 a l) 1).val = a.val :=
    (rect_emb_unit_val _ _ _ _ _).trans (by show 0 + a.val = a.val; omega)
  have h2 : ((Rect.unit (s := S7x8x3840) ![n.val % 7, 0, 128 * (n.val / 7)] ![1, 8, 128] (inbWs n)).emb (ix3 0 a l) 2).val = 128 * (n.val / 7) + l.val :=
    rect_emb_unit_val _ _ _ _ _
  show gWs (wsT arg3 harg3 x3) n (ix3 0 a l) = wsxOf x3 _
  unfold wsxOf
  rw [gWs_apply, wsT_apply]
  congr 2
  · exact Fin.ext (by show n.val / 7 = _ / 128; rw [h2]; omega)
  · exact Fin.ext (by show 8 * (n.val % 7) + a.val = 8 * _ + _; rw [h0, h1])

theorem outQ10_apply (c : Dev nD) (i : grid0.Coords) (arg2 : Memref sig .tc .vmem S1024x3840 .fp8e4m3) (harg2 : arg2.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (y) : outQ10 (F := Ideal) c i arg1 harg1 arg2 harg2 arg3 harg3 arg4 harg4 arg5 harg5 arg6 harg6 arg7 harg7 arg8 harg8 arg9 harg9 arg10 harg10 x1 x3 y = (fun _ : S8x3840.Idx => (0 : EReal)) y := by
  unfold outQ10
  refine View.canon_apply_of_pieces ((fun _ : S8x3840.Idx => (0 : EReal))) _ ?_ y (coverQ10 c i arg1 harg1 arg2 harg2 arg3 harg3 arg4 harg4 arg5 harg5 arg6 harg6 arg7 harg7 arg8 harg8 arg9 harg9 arg10 harg10 x1 x3 y)
  rw [piecesQ10]
  intro p hp x
  rw [List.mem_singleton] at hp
  subst hp
  show k0_pay924 (F := Ideal) x = 0
  pointwise [k0_pay924]

end Cert.KernelIdeal.Gen.Own

end
-- ==== Proof.MPieces.lean ====
/- What the accumulation stores, as one family of pieces. -/
module

public import proofs.«01_k».proof.Proof.QPieces

@[expose] public section

set_option maxRecDepth 65536

noncomputable section

namespace Cert.KernelIdeal.Gen.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One block of 128 columns, half of a point's groups -/

/-- Where the weight scales of row `s` and column block `k` lie, at the point `i`. -/
def wsOff (i : grid0.Coords) (s : Fin 8) (k : Fin 30) : Fin 3 → ℕ :=
  ![(Scalar.indexCast (BitVec.ofNat 32 (i 0).val) : Index).toNat, s.val, 128 * k.val]
theorem wsOff_eq (i : grid0.Coords) (s : Fin 8) (k : Fin 30) : wsOff i s k = ![(i 0).val, s.val, 128 * k.val] := by
  have h := k0_off3_eq i
  have h0 : (Scalar.indexCast (BitVec.ofNat 32 (i 0).val) : Index).toNat = (i 0).val := congrFun h 0
  rw [wsOff, h0]
theorem wsOff_inb (i : grid0.Coords) (s : Fin 8) (k : Fin 30) : ∀ a, wsOff i s k a + S1x1x128.size a ≤ S7x8x3840.size a := by
  have hi : (i 0).val < 7 := (i 0).isLt
  have := k.isLt
  have := s.isLt
  rw [wsOff_eq]
  intro a
  fin_cases a <;> simp [S7x8x3840, S1x1x128, Shape.ofList] <;> omega
theorem inbAcc (k : Fin 30) : ∀ a, (![0, 128 * k.val] : Fin 2 → ℕ) a + S8x128.size a ≤ S8x3840.size a := by
  have := k.isLt
  intro a
  fin_cases a <;> simp [S8x128, S8x3840, Shape.ofList] <;> omega
theorem inbW (h : Fin 2) (n : Fin 5) : ∀ a, (![512 * h.val, 768 * n.val] : Fin 2 → ℕ) a + S512x768.size a ≤ S1024x3840.size a := by
  have := h.isLt
  have := n.isLt
  intro a
  fin_cases a <;> simp [S512x768, S1024x3840, Shape.ofList] <;> omega
theorem slicesR (j : Fin 4) (k : Fin 30) : S32x768.Slices ![8 * j.val, 128 * (k.val % 6)] S8x128 := by
  have := j.isLt
  refine ⟨rfl, fun a => ?_⟩
  fin_cases a <;> simp [S32x768, S8x128, Shape.ofList] <;> omega

/-- The five groups of six column blocks. -/
def band (k : Fin 30) : Fin 5 := ⟨k.val / 6, by omega⟩
/-- Row `4 h + j` of eight. -/
def wrow (h : Fin 2) (j : Fin 4) : Fin 8 := ⟨4 * h.val + j.val, by omega⟩

/-- The product of the stacked codes and the weights of a half and a band of columns. -/
def prodM (i : grid0.Coords) (arg2 : Memref sig .tc .vmem S1024x3840 .fp8e4m3) (harg2 : arg2.IsWhole) (arg7 : Memref sig .tc .vmem S32x7168 .fp8e4m3) (harg7 : arg7.IsWhole) (x2 : Vec F S1024x3840 .fp8e4m3) (x7 : Vec F S32x7168 .fp8e4m3) (h : Fin 2) (n : Fin 5) : FVec F S32x768 .f32 :=
  matmul dot_S32x512_S512x768_S32x768_1_0_0_1_n_n none
    (View.readAt (Elt F) arg7.view (Rect.unit (s := S32x7168) (k0_off1 i (BitVec.ofNat 32 (512 * h.val))) S32x512.size (k0_off1_inb i h)).toLoadRect (harg7.unread x7))
    (View.readAt (Elt F) arg2.view (Rect.unit (s := S1024x3840) ![512 * h.val, 768 * n.val] S512x768.size (inbW h n)).toLoadRect (harg2.unread x2))
    (constant S32x768 .f32 0x00000000#32)

/-- One group's addend in a block of columns. -/
def termM (i : grid0.Coords) (arg2 : Memref sig .tc .vmem S1024x3840 .fp8e4m3) (harg2 : arg2.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (x2 : Vec F S1024x3840 .fp8e4m3) (x7 : Vec F S32x7168 .fp8e4m3) (x8 : Vec F S448x128 .f32) (x9 : Vec F S7x8x3840 .f32) (h : Fin 2) (k : Fin 30) (j : Fin 4) : FVec F S8x128 .f32 :=
  mulf (mulf (extractStridedSlice S8x128 ![8 * j.val, 128 * (k.val % 6)] (prodM i arg2 harg2 arg7 harg7 x2 x7 h (band k)) (slicesR j k))
      (View.readAt (Elt F) arg8.view (Rect.unit (s := S448x128) (k0_off2 i (BitVec.ofNat 32 (4 * h.val)) (BitVec.ofNat 32 (8 * j.val))) S8x128.size (k0_off2_inb i h j)).toLoadRect (harg8.unread x8)))
    (broadcastTo S8x128 (shapeCast S1x128 (View.readAt (Elt F) arg9.view (Rect.unit (s := S7x8x3840) (wsOff i (wrow h j) k) S1x1x128.size (wsOff_inb i (wrow h j) k)).toLoadRect (harg9.unread x9)) shapeCasts_S1x1x128_S1x128) broadcasts_S1x128_S8x128)

/-- A block of columns after the four addends of a half. -/
def accM (i : grid0.Coords) (arg2 : Memref sig .tc .vmem S1024x3840 .fp8e4m3) (harg2 : arg2.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (x2 : Vec F S1024x3840 .fp8e4m3) (x7 : Vec F S32x7168 .fp8e4m3) (x8 : Vec F S448x128 .f32) (x9 : Vec F S7x8x3840 .f32) (h : Fin 2) (k : Fin 30) (a : FVec F S8x128 .f32) : FVec F S8x128 .f32 :=
  shapeCast S8x128 (addf (addf (addf (addf a (termM i arg2 harg2 arg7 harg7 arg8 harg8 arg9 harg9 x2 x7 x8 x9 h k 0)) (termM i arg2 harg2 arg7 harg7 arg8 harg8 arg9 harg9 x2 x7 x8 x9 h k 1)) (termM i arg2 harg2 arg7 harg7 arg8 harg8 arg9 harg9 x2 x7 x8 x9 h k 2)) (termM i arg2 harg2 arg7 harg7 arg8 harg8 arg9 harg9 x2 x7 x8 x9 h k 3)) shapeCasts_S8x128_S8x128

/-- The first half's pieces. -/
def halfM0 (i : grid0.Coords) (arg2 : Memref sig .tc .vmem S1024x3840 .fp8e4m3) (harg2 : arg2.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) : List (View.Piece (Elt F) S8x3840 .f32) :=
  down (fun k => ⟨Rect.unit ![0, 128 * k.val] S8x128.size (inbAcc k), accM i arg2 harg2 arg7 harg7 arg8 harg8 arg9 harg9 x2 x7 x8 x9 0 k
    (View.readAt (Elt F) arg10.view (Rect.unit (s := S8x3840) ![0, 128 * k.val] S8x128.size (inbAcc k)).toLoadRect (harg10.unread x10))⟩) 30 le_rfl

/-- The second half's pieces over the first's. -/
def halfM1 (i : grid0.Coords) (arg2 : Memref sig .tc .vmem S1024x3840 .fp8e4m3) (harg2 : arg2.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) : (n : ℕ) → n ≤ 30 → List (View.Piece (Elt F) S8x3840 .f32)
  | 0, _ => halfM0 i arg2 harg2 arg7 harg7 arg8 harg8 arg9 harg9 arg10 harg10 x2 x7 x8 x9 x10
  | n + 1, hn => ⟨Rect.unit ![0, 128 * n] S8x128.size (inbAcc ⟨n, hn⟩), accM i arg2 harg2 arg7 harg7 arg8 harg8 arg9 harg9 x2 x7 x8 x9 1 ⟨n, hn⟩
      (arg10.view.readCov (halfM1 i arg2 harg2 arg7 harg7 arg8 harg8 arg9 harg9 arg10 harg10 x2 x7 x8 x9 x10 n (Nat.le_of_succ_le hn)) (Rect.unit (s := S8x3840) ![0, 128 * n] S8x128.size (inbAcc ⟨n, hn⟩)).toLoadRect)⟩
    :: halfM1 i arg2 harg2 arg7 harg7 arg8 harg8 arg9 harg9 arg10 harg10 x2 x7 x8 x9 x10 n (Nat.le_of_succ_le hn)

set_option maxHeartbeats 4000000 in
theorem piecesM (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x2 : Vec F S1024x3840 .fp8e4m3) (x7 : Vec F S32x7168 .fp8e4m3) (x8 : Vec F S448x128 .f32) (x9 : Vec F S7x8x3840 .f32) (x10 : Vec F S8x3840 .f32) :
    (runM c i arg1 harg1 arg2 harg2 arg3 harg3 arg4 harg4 arg5 harg5 arg6 harg6 arg7 harg7 arg8 harg8 arg9 harg9 arg10 harg10 x2 x7 x8 x9 x10).1 = halfM1 i arg2 harg2 arg7 harg7 arg8 harg8 arg9 harg9 arg10 harg10 x2 x7 x8 x9 x10 30 le_rfl := by
  sl_kernel_rfl

set_option maxHeartbeats 4000000 in
theorem piecesY (c : Dev nD) (i : grid0.Coords) (arg1 : Memref sig .tc .vmem S8x7168 .bf16) (harg1 : arg1.IsWhole) (arg2 : Memref sig .tc .vmem S1024x3840 .fp8e4m3) (harg2 : arg2.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole) (x10 : Vec F S8x3840 .f32) :
    (runY c i arg1 harg1 arg2 harg2 arg3 harg3 arg4 harg4 arg5 harg5 arg6 harg6 arg7 harg7 arg8 harg8 arg9 harg9 arg10 harg10 x10).1 = [⟨Rect.unit ![0, 0] S8x3840.size inb_S8x3840_S8x3840_0_0,
      k0_pay2 (View.readAt (Elt F) arg10.view (Rect.unit (s := S8x3840) ![0, 0] S8x3840.size inb_S8x3840_S8x3840_0_0).toLoadRect (harg10.unread x10))⟩] := by
  sl_kernel_rfl

end Cert.KernelIdeal.Gen.Own

end
-- ==== Proof.MValues.lean ====
/- What one point's accumulation leaves, over the extended reals, element by element. -/
module

public import proofs.«01_k».proof.Proof.QValues
public import proofs.«01_k».proof.Proof.MPieces

@[expose] public section

noncomputable section

namespace Cert.KernelIdeal.Gen.Own

open Idealize.ShloMosaic Idealize.ShloMosaic.ValueKit Cert.Spec

/-- The point's number. -/
def sOf (i : grid0.Coords) : Fin 7 := ⟨(i 0).val, (i 0).isLt⟩

/-- Place `j` of half `h` at point `s`, at row `t` and column `n`: the product over the half's 512 columns, times the
    group's scale, times the weight's. -/
def termOf (s : Fin 7) (x2 : Vec Ideal S1024x3840 .fp8e4m3) (x7 : Vec Ideal S32x7168 .fp8e4m3) (x8 : Vec Ideal S448x128 .f32) (x9 : Vec Ideal S7x8x3840 .f32)
    (h : Fin 2) (j : Fin 4) (t : Fin 8) (n : Fin 3840) : EReal :=
  (∑ x : Fin 512, x7 (ix2 ⟨8 * j.val + t.val, by omega⟩ ⟨1024 * s.val + 512 * h.val + x.val, by omega⟩) * x2 (ix2 ⟨512 * h.val + x.val, by omega⟩ n))
    * x8 (ix2 ⟨64 * s.val + 32 * h.val + 8 * j.val + t.val, by omega⟩ ⟨n.val % 128, Nat.mod_lt _ (by norm_num)⟩)
    * x9 (ix3 s (wrow h j) n)

/-- A half's four addends over the accumulator. -/
def halfOf (s : Fin 7) (x2 : Vec Ideal S1024x3840 .fp8e4m3) (x7 : Vec Ideal S32x7168 .fp8e4m3) (x8 : Vec Ideal S448x128 .f32) (x9 : Vec Ideal S7x8x3840 .f32)
    (h : Fin 2) (a : S8x3840.Idx → EReal) (y : S8x3840.Idx) : EReal :=
  a y + termOf s x2 x7 x8 x9 h 0 (y 0) (y 1) + termOf s x2 x7 x8 x9 h 1 (y 0) (y 1) + termOf s x2 x7 x8 x9 h 2 (y 0) (y 1) + termOf s x2 x7 x8 x9 h 3 (y 0) (y 1)

variable (arg2 : Memref sig .tc .vmem S1024x3840 .fp8e4m3) (harg2 : arg2.IsWhole) (arg7 : Memref sig .tc .vmem S32x7168 .fp8e4m3) (harg7 : arg7.IsWhole) (arg8 : Memref sig .tc .vmem S448x128 .f32) (harg8 : arg8.IsWhole) (arg9 : Memref sig .tc .vmem S7x8x3840 .f32) (harg9 : arg9.IsWhole) (arg10 : Memref sig .tc .vmem S8x3840 .f32) (harg10 : arg10.IsWhole)
  (x2 : Vec Ideal S1024x3840 .fp8e4m3) (x7 : Vec Ideal S32x7168 .fp8e4m3) (x8 : Vec Ideal S448x128 .f32) (x9 : Vec Ideal S7x8x3840 .f32) (x10 : Vec Ideal S8x3840 .f32)

theorem prodM_apply (i : grid0.Coords) (h : Fin 2) (n : Fin 5) (r : Fin 32) (l : Fin 768) :
    prodM (F := Ideal) i arg2 harg2 arg7 harg7 x2 x7 h n (ix2 r l) = ∑ x : Fin 512, x7 (ix2 r ⟨1024 * (sOf i).val + 512 * h.val + x.val, by have := (sOf i).isLt; omega⟩)
      * x2 (ix2 ⟨512 * h.val + x.val, by omega⟩ ⟨768 * n.val + l.val, by omega⟩) := by
  pointwise [prodM]
  refine Finset.sum_congr rfl fun x _ => congrArg₂ (· * ·) (readUnit _ _ _ _ _ _ _ _ fun a => ?_) (readUnit _ _ _ _ _ _ _ _ fun a => ?_)
  · fin_cases a
    · exact ((congrArg (· + r.val) (congrFun (k0_off1_eq i h) 0)).trans (Nat.zero_add _)).symm
    · exact (congrArg (· + x.val) (congrFun (k0_off1_eq i h) 1)).symm
  · fin_cases a <;> rfl

theorem termM_apply (i : grid0.Coords) (h : Fin 2) (k : Fin 30) (j : Fin 4) (t : Fin 8) (l : Fin 128) :
    termM (F := Ideal) i arg2 harg2 arg7 harg7 arg8 harg8 arg9 harg9 x2 x7 x8 x9 h k j (ix2 t l) = termOf (sOf i) x2 x7 x8 x9 h j t ⟨128 * k.val + l.val, by omega⟩ := by
  pointwise [termM]
  unfold termOf
  refine congrArg₂ (· * ·) (congrArg₂ (· * ·) ?_ (readUnit _ _ _ _ _ _ _ _ fun a => ?_)) (readUnit _ _ _ _ _ _ _ _ fun a => ?_)
  · rw [prodM_apply]
    refine Finset.sum_congr rfl fun x _ => congrArg (_ * ·) (congrArg x2 (congrArg (ix2 _) (Fin.ext ?_)))
    show 768 * (k.val / 6) + (128 * (k.val % 6) + l.val) = 128 * k.val + l.val
    omega
  · fin_cases a
    · exact (congrArg (· + t.val) (congrFun (k0_off2_eq i h j) 0)).symm
    · refine (Eq.trans (congrArg (· + l.val) (congrFun (k0_off2_eq i h j) 1)) ?_).symm
      show 0 + l.val = (128 * k.val + l.val) % 128
      omega
  · refine (Eq.trans (congrArg (· + _) (congrFun (wsOff_eq i (wrow h j) k) a)) ?_).symm
    fin_cases a <;> rfl

theorem accM_apply (i : grid0.Coords) (h : Fin 2) (k : Fin 30) (a : FVec Ideal S8x128 .f32) (t : Fin 8) (l : Fin 128) (A : S8x3840.Idx → EReal) (y : S8x3840.Idx)
    (ht : y 0 = t) (hl : (y 1).val = 128 * k.val + l.val) (hA : a (ix2 t l) = A y) :
    accM (F := Ideal) i arg2 harg2 arg7 harg7 arg8 harg8 arg9 harg9 x2 x7 x8 x9 h k a (ix2 t l) = halfOf (sOf i) x2 x7 x8 x9 h A y := by
  pointwise [accM]
  simp only [termM_apply]
  unfold halfOf
  have e : y 1 = ⟨128 * k.val + l.val, by omega⟩ := Fin.ext hl
  rw [hA, ht, e]
  rfl

/-! ## The pieces -/

theorem mem_accCol (k : Fin 30) (y : S8x3840.Idx) : y ∈ (Rect.unit (s := S8x3840) ![0, 128 * k.val] S8x128.size (inbAcc k)).set ↔ (y 1).val / 128 = k.val := by
  have h0 : (y 0).val < 8 := (y 0).isLt
  rw [Rect.mem_set_unit]
  refine ⟨fun h => ?_, fun h a => ?_⟩
  · have : 128 * k.val ≤ (y 1).val ∧ (y 1).val < 128 * k.val + 128 := h 1
    omega
  · fin_cases a
    · show 0 ≤ (y 0).val ∧ (y 0).val < 0 + 8
      omega
    · show 128 * k.val ≤ (y 1).val ∧ (y 1).val < 128 * k.val + 128
      omega

theorem down_mem {α : Type*} {N : ℕ} (f : Fin N → α) : ∀ (n : ℕ) (h : n ≤ N) (g : Fin N), g.val < n → f g ∈ down f n h
  | 0, _, _, hg => absurd hg (Nat.not_lt_zero _)
  | n + 1, h, g, hg => by
    by_cases e : g.val = n
    · subst e
      exact List.mem_cons_self
    · exact List.mem_cons_of_mem _ (down_mem f n _ g (by omega))

theorem emb_accCol (k : Fin 30) (t : Fin 8) (l : Fin 128) :
    (Rect.unit (s := S8x3840) ![0, 128 * k.val] S8x128.size (inbAcc k)).emb (ix2 t l) 0 = t
    ∧ ((Rect.unit (s := S8x3840) ![0, 128 * k.val] S8x128.size (inbAcc k)).emb (ix2 t l) 1).val = 128 * k.val + l.val :=
  ⟨Fin.ext ((rect_emb_unit_val _ _ _ _ _).trans (by show 0 + t.val = t.val; omega)), rect_emb_unit_val _ _ _ _ _⟩

theorem halfM0_apply (i : grid0.Coords) (y : S8x3840.Idx) :
    View.canon (halfM0 (F := Ideal) i arg2 harg2 arg7 harg7 arg8 harg8 arg9 harg9 arg10 harg10 x2 x7 x8 x9 x10) y = halfOf (sOf i) x2 x7 x8 x9 0 x10 y := by
  refine View.canon_apply_of_pieces (Val := Elt Ideal) (S := S8x3840) (e := .f32) (halfOf (sOf i) x2 x7 x8 x9 0 x10) _ ?_ y ?_
  · intro p hp x
    obtain ⟨k, rfl⟩ := mem_down _ _ _ _ hp
    obtain ⟨t, l, rfl⟩ : ∃ (t : Fin 8) (l : Fin 128), x = ix2 t l := ⟨x 0, x 1, eq_ix2 x⟩
    refine accM_apply arg2 harg2 arg7 harg7 arg8 harg8 arg9 harg9 x2 x7 x8 x9 i 0 k _ t l x10 _ (emb_accCol k t l).1 (emb_accCol k t l).2 (readUnit _ _ _ _ _ _ _ _ fun a => ?_)
    exact rect_emb_unit_val _ _ _ _ _
  · have : (y 1).val < 3840 := (y 1).isLt
    exact ⟨_, down_mem _ 30 le_rfl ⟨(y 1).val / 128, by omega⟩ (by show (y 1).val / 128 < 30; omega), (mem_accCol _ y).mpr rfl⟩

theorem canon_off (k : Fin 30) (w : S8x128.Idx → EReal) (L : List (View.Piece (Elt Ideal) S8x3840 .f32)) (y : S8x3840.Idx) (h : ¬ (y 1).val / 128 = k.val) :
    View.canon (Val := Elt Ideal) (e := .f32) (⟨Rect.unit (s := S8x3840) ![0, 128 * k.val] S8x128.size (inbAcc k), w⟩ :: L) y = View.canon L y :=
  View.canon_cons_of_not_mem (Val := Elt Ideal) (e := .f32) ⟨Rect.unit (s := S8x3840) ![0, 128 * k.val] S8x128.size (inbAcc k), w⟩ L (mt (mem_accCol k y).mp h)

theorem canon_on (k : Fin 30) (w : S8x128.Idx → EReal) (L : List (View.Piece (Elt Ideal) S8x3840 .f32)) (t : Fin 8) (l : Fin 128) :
    View.canon (Val := Elt Ideal) (e := .f32) (⟨Rect.unit (s := S8x3840) ![0, 128 * k.val] S8x128.size (inbAcc k), w⟩ :: L)
      ((Rect.unit (s := S8x3840) ![0, 128 * k.val] S8x128.size (inbAcc k)).emb (ix2 t l)) = w (ix2 t l) :=
  View.canon_cons_emb (Val := Elt Ideal) (e := .f32) (Rect.unit (s := S8x3840) ![0, 128 * k.val] S8x128.size (inbAcc k)) w L (ix2 t l)

theorem halfM1_succ (i : grid0.Coords) (k : Fin 30) (hn : k.val + 1 ≤ 30) :
    halfM1 (F := Ideal) i arg2 harg2 arg7 harg7 arg8 harg8 arg9 harg9 arg10 harg10 x2 x7 x8 x9 x10 (k.val + 1) hn
      = ⟨Rect.unit (s := S8x3840) ![0, 128 * k.val] S8x128.size (inbAcc k), accM i arg2 harg2 arg7 harg7 arg8 harg8 arg9 harg9 x2 x7 x8 x9 1 k
          (arg10.view.readCov (halfM1 (F := Ideal) i arg2 harg2 arg7 harg7 arg8 harg8 arg9 harg9 arg10 harg10 x2 x7 x8 x9 x10 k.val (Nat.le_of_succ_le hn)) (Rect.unit (s := S8x3840) ![0, 128 * k.val] S8x128.size (inbAcc k)).toLoadRect)⟩
        :: halfM1 (F := Ideal) i arg2 harg2 arg7 harg7 arg8 harg8 arg9 harg9 arg10 harg10 x2 x7 x8 x9 x10 k.val (Nat.le_of_succ_le hn) := rfl

/-- Another block of the second half over the blocks before it. -/
theorem halfM1_step (i : grid0.Coords) (k : Fin 30) (hn : k.val + 1 ≤ 30)
    (ih : ∀ y : S8x3840.Idx, View.canon (halfM1 (F := Ideal) i arg2 harg2 arg7 harg7 arg8 harg8 arg9 harg9 arg10 harg10 x2 x7 x8 x9 x10 k.val (Nat.le_of_succ_le hn)) y
      = if (y 1).val / 128 < k.val then halfOf (sOf i) x2 x7 x8 x9 1 (halfOf (sOf i) x2 x7 x8 x9 0 x10) y else halfOf (sOf i) x2 x7 x8 x9 0 x10 y) (y : S8x3840.Idx) :
    View.canon (halfM1 (F := Ideal) i arg2 harg2 arg7 harg7 arg8 harg8 arg9 harg9 arg10 harg10 x2 x7 x8 x9 x10 (k.val + 1) hn) y
      = if (y 1).val / 128 < k.val + 1 then halfOf (sOf i) x2 x7 x8 x9 1 (halfOf (sOf i) x2 x7 x8 x9 0 x10) y else halfOf (sOf i) x2 x7 x8 x9 0 x10 y := by
  rw [halfM1_succ]
  generalize halfM1 (F := Ideal) i arg2 harg2 arg7 harg7 arg8 harg8 arg9 harg9 arg10 harg10 x2 x7 x8 x9 x10 k.val (Nat.le_of_succ_le hn) = L at ih ⊢
  by_cases hy : (y 1).val / 128 = k.val
  · rw [if_pos (by omega)]
    obtain ⟨x, rfl⟩ := (Rect.unit (s := S8x3840) ![0, 128 * k.val] S8x128.size (inbAcc k)).exists_idx_of_mem ((mem_accCol k y).mpr hy)
    obtain ⟨t, l, rfl⟩ : ∃ (t : Fin 8) (l : Fin 128), x = ix2 t l := ⟨x 0, x 1, eq_ix2 x⟩
    refine (canon_on k _ L t l).trans ?_
    refine accM_apply arg2 harg2 arg7 harg7 arg8 harg8 arg9 harg9 x2 x7 x8 x9 i 1 k _ t l _ _ (emb_accCol k t l).1 (emb_accCol k t l).2 ?_
    rw [View.readCov_eq_canon']
    refine (ih _).trans (if_neg ?_)
    rw [show ∀ z : ℕ, z < k.val ↔ ¬ k.val ≤ z from fun z => by omega, not_not]
    exact le_of_eq hy.symm
  · rw [canon_off k _ L y hy, ih y]
    by_cases h' : (y 1).val / 128 < k.val
    · rw [if_pos h', if_pos (by omega)]
    · rw [if_neg h', if_neg (by omega)]

theorem halfM1_apply (i : grid0.Coords) : ∀ (n : ℕ) (hn : n ≤ 30) (y : S8x3840.Idx),
    View.canon (halfM1 (F := Ideal) i arg2 harg2 arg7 harg7 arg8 harg8 arg9 harg9 arg10 harg10 x2 x7 x8 x9 x10 n hn) y
      = if (y 1).val / 128 < n then halfOf (sOf i) x2 x7 x8 x9 1 (halfOf (sOf i) x2 x7 x8 x9 0 x10) y else halfOf (sOf i) x2 x7 x8 x9 0 x10 y
  | 0, _, y => by
    rw [if_neg (Nat.not_lt_zero _)]
    exact halfM0_apply arg2 harg2 arg7 harg7 arg8 harg8 arg9 harg9 arg10 harg10 x2 x7 x8 x9 x10 i y
  | n + 1, hn, y =>
    halfM1_step arg2 harg2 arg7 harg7 arg8 harg8 arg9 harg9 arg10 harg10 x2 x7 x8 x9 x10 i ⟨n, hn⟩ hn (halfM1_apply i n (Nat.le_of_succ_le hn)) y

/-- One point's accumulation. -/
theorem outM_apply (c : Dev nD) (i : grid0.Coords) (arg1 : Memref sig .tc .vmem S8x7168 .bf16) (harg1 : arg1.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole)  (y : S8x3840.Idx) :
    outM (F := Ideal) c i arg1 harg1 arg2 harg2 arg3 harg3 arg4 harg4 arg5 harg5 arg6 harg6 arg7 harg7 arg8 harg8 arg9 harg9 arg10 harg10 x2 x7 x8 x9 x10 y = halfOf (sOf i) x2 x7 x8 x9 1 (halfOf (sOf i) x2 x7 x8 x9 0 x10) y := by
  have : (y 1).val < 3840 := (y 1).isLt
  unfold outM
  rw [piecesM, halfM1_apply, if_pos (by omega)]

theorem outY_apply (c : Dev nD) (i : grid0.Coords) (arg1 : Memref sig .tc .vmem S8x7168 .bf16) (harg1 : arg1.IsWhole) (arg3 : Memref sig .tc .vmem S30x56 .f32) (harg3 : arg3.IsWhole) (arg4 : Memref sig .tc .vmem S8x3840 .bf16) (harg4 : arg4.IsWhole) (arg5 : Memref sig .tc .vmem S8x7168 .fp8e4m3) (harg5 : arg5.IsWhole) (arg6 : Memref sig .tc .vmem S8x1x56 .f32) (harg6 : arg6.IsWhole)  (y : S8x3840.Idx) :
    outY (F := Ideal) c i arg1 harg1 arg2 harg2 arg3 harg3 arg4 harg4 arg5 harg5 arg6 harg6 arg7 harg7 arg8 harg8 arg9 harg9 arg10 harg10 x10 y = x10 y := by
  unfold outY
  refine View.canon_apply_of_pieces (Val := Elt Ideal) (S := S8x3840) (e := .bf16) (x10 : S8x3840.Idx → EReal) _ ?_ y (coverY c i arg1 harg1 arg2 harg2 arg3 harg3 arg4 harg4 arg5 harg5 arg6 harg6 arg7 harg7 arg8 harg8 arg9 harg9 arg10 harg10 x10 y)
  rw [piecesY]
  intro p hp x
  rw [List.mem_singleton] at hp
  subst hp
  refine Eq.trans ?_ (readUnit arg10 harg10 x10 ![0, 0] S8x3840.size inb_S8x3840_S8x3840_0_0 x _ fun a => rect_emb_unit_val ![0, 0] S8x3840.size inb_S8x3840_S8x3840_0_0 x a)
  rfl

end Cert.KernelIdeal.Gen.Own

end
-- ==== Proof.RefValues.lean ====
/- What the reference computes, over the extended reals, element by element. -/
module

public import proofs.«01_k».proof.Proof.QValues
public import proofs.«01_k».proof.Proof.Gen.ReferenceIdeal.Value

@[expose] public section

noncomputable section

namespace Cert.Spec

open Idealize.ShloMosaic

/-- One group's share of one output. -/
def gterm (x : (⟨2, ![8, 7168]⟩ : Shape).Idx → EReal) (w : (⟨2, ![7168, 3840]⟩ : Shape).Idx → EReal) (s : (⟨2, ![56, 30]⟩ : Shape).Idx → EReal)
    (t : Fin 8) (n : Fin 3840) (g : Fin 56) : EReal :=
  (∑ l : Fin 128, clp (grp x t g) l * w (ix2 (col g l) n)) * scl (grp x t g) * s (ix2 g ⟨n.val / 128, by omega⟩)

end Cert.Spec

namespace Cert.ReferenceIdeal.Gen

open Idealize.ShloMosaic Cert.Spec

variable (v0 : Vec Ideal S8x7168 .bf16)

theorem pay4_apply (t : Fin 8) (g : Fin 56) (l : Fin 128) : k0_pay4 (F := Ideal) v0 (ix3 t g l) = grp v0 t g l := by
  pointwise [k0_pay4]
  refine congrArg v0 ?_
  congr 1
  exact Fin.ext (by show g.val * 128 + l.val = 128 * g.val + l.val; omega)

/-- The exponent, as the reference computes it. -/
theorem pay5_apply (t : Fin 8) (g : Fin 56) : k0_pay5 (F := Ideal) v0 (ix2 t g) = ((ex (grp v0 t g) : ℝ) : EReal) := by
  have hA : (Finset.fold max (Ideal.ofBits .f32 4286578688#32) (fun x => FloatOps.absf (F := Ideal) (φ := .f32) (k0_pay4 (F := Ideal) v0 (ix3 t g x))) Finset.univ) = amx (grp v0 t g) := by
    simp only [pay4_apply]; rfl
  pointwise [k0_pay5]
  simp only [hA]
  rw [ofBits_least_f32, ofBits_inf_f32, ofBits_two_f32, ofBits_126_f32]
  unfold ex
  by_cases h : amx (grp v0 t g) = 0
  · rw [if_pos h, if_pos h]; simp
  rw [if_neg h, if_neg h, ← Cert.KernelIdeal.Gen.Own.expo_of_log]
  generalize amx (grp v0 t g) * Ideal.ofBits FTy.f32 991054117#32 = v
  by_cases h1 : v < (((2 : ℝ) ^ (-126 : ℤ) : ℝ) : EReal)
  · rw [if_pos (Or.inl h1), decide_eq_true h1]
    by_cases h2 : v = ⊤
    · rw [decide_eq_true h2]; rfl
    · rw [decide_eq_false h2]; rfl
  · rw [decide_eq_false h1]
    by_cases h2 : v = ⊤
    · rw [if_pos (Or.inr h2), decide_eq_true h2]; rfl
    · rw [if_neg (fun h => h.elim h1 h2), decide_eq_false h2]; rfl

theorem pay6_apply (t : Fin 8) (g : Fin 56) (l : Fin 128) : k0_pay6 (F := Ideal) v0 (ix3 t g l) = clp (grp v0 t g) l := by
  pointwise [k0_pay6]
  rw [pay4_apply, pay5_apply]
  have e : (0 : EReal) - ((ex (grp v0 t g) : ℝ) : EReal) = (((-ex (grp v0 t g) : ℤ) : ℝ) : EReal) := by
    rw [zero_sub]; push_cast; rfl
  rw [e]
  exact congrArg (fun z => min _ (max _ (grp v0 t g l * z))) (Cert.KernelIdeal.Gen.Own.exp2_int _)

theorem pay7_apply (t : Fin 8) (g : Fin 56) : k0_pay7 (F := Ideal) v0 (ix2 t g) = scl (grp v0 t g) := by
  pointwise [k0_pay7]
  rw [pay5_apply]
  exact Cert.KernelIdeal.Gen.Own.exp2_int _

theorem pay1_apply (v38 : FVec Ideal S8x56x128 .fp8e4m3) (v39 : FVec Ideal S8x56 .f32) (w : Vec Ideal S7168x3840 .fp8e4m3) (v43 : Vec Ideal S56x30 .f32)
    (t : Fin 8) (n : Fin 3840) : k0_pay1 (F := Ideal) v38 v39 (k0_pay8 w) (constant S56x8x3840 .f32 0x00000000#32) v43 (ix2 t n)
      = ∑ g : Fin 56, (∑ l : Fin 128, v38 (ix3 t g l) * w (ix2 (col g l) n)) * v39 (ix2 t g) * v43 (ix2 g ⟨n.val / 128, by omega⟩) := by
  pointwise [k0_pay1, k0_pay8]
  refine Finset.sum_congr rfl fun g _ => ?_
  refine congrArg (· * _ * _) (Finset.sum_congr rfl fun l _ => congrArg (_ * ·) (congrArg w ?_))
  congr 1
  exact Fin.ext (by show g.val * 128 + l.val = 128 * g.val + l.val; omega)

theorem pay2_apply (v38 : FVec Ideal S8x56x128 .fp8e4m3) (t : Fin 8) (j : Fin 7168) : k0_pay2 (F := Ideal) v38 (ix2 t j) = v38 (ix3 t (gOf j) (lOf j)) := by
  pointwise [k0_pay2]
  rfl

theorem pay3_apply (v39 : FVec Ideal S8x56 .f32) (t : Fin 8) (o : Fin 1) (g : Fin 56) : k0_pay3 (F := Ideal) v39 (ix3 t o g) = v39 (ix2 t g) := by
  pointwise [k0_pay3]

variable (x0 : Vec Ideal S8x7168 .bf16) (x1 : Vec Ideal S7168x3840 .fp8e4m3) (x2 : Vec Ideal S56x30 .f32)

theorem pay9_eq : k0_pay9 (F := Ideal) x0 x1 x2 = k0_pay6 x0 := by
  unfold k0_pay9
  rw [View.ld_unit_lit _ x0 (by decide)]

theorem pay10_eq : k0_pay10 (F := Ideal) x0 x1 x2 = k0_pay7 x0 := by
  unfold k0_pay10
  rw [View.ld_unit_lit _ x0 (by decide)]

theorem out3_apply (t : Fin 8) (n : Fin 3840) : out0_3 (F := Ideal) x0 x1 x2 (ix2 t n) = ∑ g : Fin 56, gterm x0 x1 x2 t n g := by
  unfold out0_3
  rw [View.canon_cons_unit_lit _ _ _ (by decide), View.ld_unit_lit _ x1 (by decide), View.ld_unit_lit _ x2 (by decide), pay1_apply, pay9_eq, pay10_eq]
  simp only [pay6_apply, pay7_apply]
  rfl

theorem out4_apply (t : Fin 8) (j : Fin 7168) : out0_4 (F := Ideal) x0 x1 x2 (ix2 t j) = clp (grp x0 t (gOf j)) (lOf j) := by
  unfold out0_4
  rw [View.canon_cons_unit_lit _ _ _ (by decide), pay2_apply, pay9_eq, pay6_apply]

theorem out5_apply (t : Fin 8) (o : Fin 1) (g : Fin 56) : out0_5 (F := Ideal) x0 x1 x2 (ix3 t o g) = scl (grp x0 t g) := by
  unfold out0_5
  rw [View.canon_cons_unit_lit _ _ _ (by decide), pay3_apply, pay10_eq, pay7_apply]

end Cert.ReferenceIdeal.Gen

end
-- ==== Proof.KValues.lean ====
/- What the kernel computes, over the extended reals: the accumulator's sum over the groups. -/
module

public import proofs.«01_k».proof.Proof.OwnFrame
public import proofs.«01_k».proof.Proof.MValues
public import proofs.«01_k».proof.Proof.RefValues

@[expose] public section

noncomputable section

namespace Cert.Spec

open Idealize.ShloMosaic

theorem sum512 (f : Fin 512 → EReal) : ∑ x, f x = ∑ a : Fin 4, ∑ l : Fin 128, f ⟨128 * a.val + l.val, by omega⟩ := by
  rw [← Fintype.sum_prod_type' (f := fun (a : Fin 4) (l : Fin 128) => f ⟨128 * a.val + l.val, by omega⟩)]
  refine (Fintype.sum_equiv (finProdFinEquiv (m := 4) (n := 128)) _ _ fun p => congrArg f (Fin.ext ?_)).symm
  show 128 * p.1.val + p.2.val = p.2.val + 128 * p.1.val
  omega

/-- One group's share, by number. -/
def gnat (x : (⟨2, ![8, 7168]⟩ : Shape).Idx → EReal) (w : (⟨2, ![7168, 3840]⟩ : Shape).Idx → EReal) (s : (⟨2, ![56, 30]⟩ : Shape).Idx → EReal)
    (t : Fin 8) (n : Fin 3840) (k : ℕ) : EReal := if h : k < 56 then gterm x w s t n ⟨k, h⟩ else 0

end Cert.Spec

namespace Cert.KernelIdeal.Gen.Own

open Idealize.ShloMosaic Idealize.ShloMosaic.ValueKit Cert.Spec

section Terms

variable (x1 : Vec Ideal S8x7168 .bf16) (x3 : Vec Ideal S30x56 .f32) (x2 : Vec Ideal S1024x3840 .fp8e4m3)
  (w : (⟨2, ![7168, 3840]⟩ : Shape).Idx → EReal) (sc : (⟨2, ![56, 30]⟩ : Shape).Idx → EReal)

/-- A place of a half is one group: the stacked codes are zero off the group's own columns. -/
theorem termOf_eq (s : Fin 7) (hw : ∀ (r : Fin 1024) (n : Fin 3840), x2 (ix2 r n) = w (ix2 ⟨1024 * s.val + r.val, by omega⟩ n))
    (hs : ∀ (a : Fin 30) (b : Fin 56), x3 (ix2 a b) = sc (ix2 b a)) (h : Fin 2) (j : Fin 4) (t : Fin 8) (n : Fin 3840) :
    termOf s x2 (lhsOf x1) (xsOf x1) (wsxOf x3) h j t n = gterm x1 w sc t n ⟨8 * s.val + 4 * h.val + j.val, by omega⟩ := by
  have e1 : (∑ x : Fin 512, lhsOf x1 (ix2 ⟨8 * j.val + t.val, by omega⟩ ⟨1024 * s.val + 512 * h.val + x.val, by omega⟩) * x2 (ix2 ⟨512 * h.val + x.val, by omega⟩ n))
      = ∑ l : Fin 128, clp (grp x1 t ⟨8 * s.val + 4 * h.val + j.val, by omega⟩) l * w (ix2 (col ⟨8 * s.val + 4 * h.val + j.val, by omega⟩ l) n) := by
    rw [sum512, Finset.sum_eq_single j]
    · refine Finset.sum_congr rfl fun l _ => ?_
      rw [hw]
      have g1 : gOf (⟨1024 * s.val + 512 * h.val + (128 * j.val + l.val), by omega⟩ : Fin 7168) = ⟨8 * s.val + 4 * h.val + j.val, by omega⟩ :=
        gOf_of _ _ l (by show _ = 128 * (8 * s.val + 4 * h.val + j.val) + l.val; dsimp only; omega)
      have l1 : lOf (⟨1024 * s.val + 512 * h.val + (128 * j.val + l.val), by omega⟩ : Fin 7168) = l :=
        lOf_of _ ⟨8 * s.val + 4 * h.val + j.val, by omega⟩ l (by show _ = 128 * (8 * s.val + 4 * h.val + j.val) + l.val; dsimp only; omega)
      have r1 : r8 (⟨8 * j.val + t.val, by omega⟩ : Fin 32) = t := Fin.ext (by show (8 * j.val + t.val) % 8 = t.val; omega)
      refine congrArg₂ (· * ·) ?_ ?_
      · show (if (8 * j.val + t.val) / 8 = (gOf (⟨1024 * s.val + 512 * h.val + (128 * j.val + l.val), by omega⟩ : Fin 7168)).val % 4
            then clp (grp x1 (r8 (⟨8 * j.val + t.val, by omega⟩ : Fin 32)) (gOf (⟨1024 * s.val + 512 * h.val + (128 * j.val + l.val), by omega⟩ : Fin 7168)))
              (lOf (⟨1024 * s.val + 512 * h.val + (128 * j.val + l.val), by omega⟩ : Fin 7168)) else 0) = _
        rw [g1, l1, r1, if_pos (by dsimp only; omega)]
      · refine congrArg w ?_
        congr 1
        exact Fin.ext (by show 1024 * s.val + (512 * h.val + (128 * j.val + l.val)) = 128 * (8 * s.val + 4 * h.val + j.val) + l.val; omega)
    · intro a _ ha
      refine Finset.sum_eq_zero fun l _ => ?_
      have g1 : gOf (⟨1024 * s.val + 512 * h.val + (128 * a.val + l.val), by omega⟩ : Fin 7168) = ⟨8 * s.val + 4 * h.val + a.val, by omega⟩ :=
        gOf_of _ _ l (by show _ = 128 * (8 * s.val + 4 * h.val + a.val) + l.val; dsimp only; omega)
      have z : lhsOf x1 (ix2 ⟨8 * j.val + t.val, by omega⟩ ⟨1024 * s.val + 512 * h.val + (128 * a.val + l.val), by omega⟩) = 0 := by
        show (if (8 * j.val + t.val) / 8 = (gOf (⟨1024 * s.val + 512 * h.val + (128 * a.val + l.val), by omega⟩ : Fin 7168)).val % 4
            then clp (grp x1 (r8 (⟨8 * j.val + t.val, by omega⟩ : Fin 32)) (gOf (⟨1024 * s.val + 512 * h.val + (128 * a.val + l.val), by omega⟩ : Fin 7168)))
              (lOf (⟨1024 * s.val + 512 * h.val + (128 * a.val + l.val), by omega⟩ : Fin 7168)) else 0) = _
        rw [g1, if_neg]
        intro e
        refine ha (Fin.ext ?_)
        dsimp only at e
        omega
      exact (congrArg (· * _) z).trans (zero_mul _)
    · intro hj; exact absurd (Finset.mem_univ j) hj
  have e2 : xsOf x1 (ix2 ⟨64 * s.val + 32 * h.val + 8 * j.val + t.val, by omega⟩ ⟨n.val % 128, Nat.mod_lt _ (by norm_num)⟩)
      = scl (grp x1 t ⟨8 * s.val + 4 * h.val + j.val, by omega⟩) := by
    refine congrArg₂ (fun a b => scl (grp x1 a b)) (Fin.ext ?_) (Fin.ext ?_)
    · show (64 * s.val + 32 * h.val + 8 * j.val + t.val) % 8 = t.val; omega
    · show (64 * s.val + 32 * h.val + 8 * j.val + t.val) / 8 = 8 * s.val + 4 * h.val + j.val; omega
  have e3 : wsxOf x3 (ix3 s (wrow h j) n) = sc (ix2 ⟨8 * s.val + 4 * h.val + j.val, by omega⟩ ⟨n.val / 128, by omega⟩) := by
    refine Eq.trans ?_ (hs _ _)
    refine congrArg x3 (congrArg (ix2 (⟨n.val / 128, by omega⟩ : Fin 30)) (Fin.ext ?_))
    show 8 * s.val + (4 * h.val + j.val) = 8 * s.val + 4 * h.val + j.val
    omega
  unfold termOf gterm
  rw [e1, e2, e3]

/-- One point adds its eight groups. -/
theorem halves_eq (s : Fin 7) (hw : ∀ (r : Fin 1024) (n : Fin 3840), x2 (ix2 r n) = w (ix2 ⟨1024 * s.val + r.val, by omega⟩ n))
    (hs : ∀ (a : Fin 30) (b : Fin 56), x3 (ix2 a b) = sc (ix2 b a)) (a : S8x3840.Idx → EReal) (t : Fin 8) (n : Fin 3840)
    (ha : a (ix2 t n) = ∑ k ∈ Finset.range (8 * s.val), gnat x1 w sc t n k) :
    halfOf s x2 (lhsOf x1) (xsOf x1) (wsxOf x3) 1 (halfOf s x2 (lhsOf x1) (xsOf x1) (wsxOf x3) 0 a) (ix2 t n)
      = ∑ k ∈ Finset.range (8 * s.val + 8), gnat x1 w sc t n k := by
  have e : ∀ (h : Fin 2) (j : Fin 4) (k : ℕ) (hk : k = 8 * s.val + (4 * h.val + j.val)),
      termOf s x2 (lhsOf x1) (xsOf x1) (wsxOf x3) h j t n = gnat x1 w sc t n k := by
    intro h j k hk
    subst hk
    rw [termOf_eq x1 x3 x2 w sc s hw hs h j t n]
    unfold gnat
    rw [dif_pos (by omega : 8 * s.val + (4 * h.val + j.val) < 56)]
    exact congrArg (gterm x1 w sc t n) (Fin.ext (Nat.add_assoc _ _ _))
  show a (ix2 t n) + termOf s x2 (lhsOf x1) (xsOf x1) (wsxOf x3) 0 0 t n + termOf s x2 (lhsOf x1) (xsOf x1) (wsxOf x3) 0 1 t n
      + termOf s x2 (lhsOf x1) (xsOf x1) (wsxOf x3) 0 2 t n + termOf s x2 (lhsOf x1) (xsOf x1) (wsxOf x3) 0 3 t n
      + termOf s x2 (lhsOf x1) (xsOf x1) (wsxOf x3) 1 0 t n + termOf s x2 (lhsOf x1) (xsOf x1) (wsxOf x3) 1 1 t n
      + termOf s x2 (lhsOf x1) (xsOf x1) (wsxOf x3) 1 2 t n + termOf s x2 (lhsOf x1) (xsOf x1) (wsxOf x3) 1 3 t n = _
  rw [e 0 0 (8 * s.val) (by simp), e 0 1 (8 * s.val + 1) (by simp), e 0 2 (8 * s.val + 2) (by simp), e 0 3 (8 * s.val + 3) (by simp),
    e 1 0 (8 * s.val + 4) (by simp), e 1 1 (8 * s.val + 5) (by simp), e 1 2 (8 * s.val + 6) (by simp), e 1 3 (8 * s.val + 7) (by simp), ha]
  simp only [Finset.sum_range_succ]

end Terms

end Cert.KernelIdeal.Gen.Own

end
-- ==== Proof.Blocks.lean ====
/- What the kernel's and the reference's input blocks hold: the arguments, as the host's reshape and transpose leave them. -/
module

public import proofs.«01_k».proof.Proof.KValues
public import Idealize.ShloMosaic.Lib.Pipeline.ValueKit

@[expose] public section

noncomputable section

namespace Cert.KernelIdeal.Gen.Own

open Idealize.ShloMosaic Idealize.ShloMosaic.TcCoe Idealize.ShloMosaic.ValueKit Cert.Spec

variable (m : (ℓ : Loc nD τ sig) → Buf (Elt Ideal) ℓ)

/-- The activations as a matrix. -/
def X0 (c : Dev nD) : Vec Ideal S8x7168 .bf16 := shapeCast S8x7168 (m ((c : Thread nD τ).loc main_arg0) : Vec Ideal S8x1x7168 .bf16) shapeCasts_S8x1x7168_S8x7168

theorem V_v0 (c : Dev nD) : V m c main_v0 = X0 m c := by
  unfold V
  after_results
  rfl

theorem V_v1 (c : Dev nD) : V m c main_v1 = transpose S30x56 [1, 0] (m ((c : Thread nD τ).loc main_arg2) : Vec Ideal S56x30 .f32) transposes_S56x30_S30x56_1_0 := by
  unfold V
  after_results

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem crd : ∀ t : Fin cfg0.N, ((grid0.coords t) 0).val = t.val := (by decide +kernel : ∀ t : Fin grid0.N, _)

theorem iblk0_eq (c : Dev nD) (t : Fin cfg0.N) : iblk m c 0 t = X0 m c := by
  rw [← V_v0]
  blk_ext! [iblk, idx0 t]

theorem iblk2_eq (c : Dev nD) (t : Fin cfg0.N) (a : Fin 30) (b : Fin 56) :
    (iblk m c 2 t : Vec Ideal S30x56 .f32) (ix2 a b) = (m ((c : Thread nD τ).loc main_arg2) : Vec Ideal S56x30 .f32) (ix2 b a) := by
  have e : iblk m c 2 t = V m c main_v1 := by
    blk_ext! [iblk, idx2 t]
  rw [e, V_v1]
  pointwise []

theorem iblk1_eq (c : Dev nD) (t : Fin cfg0.N) (r : Fin 1024) (n : Fin 3840) (h : 1024 * t.val + r.val < 7168) :
    (iblk m c 1 t : Vec Ideal S1024x3840 .fp8e4m3) (ix2 r n) = (m ((c : Thread nD τ).loc main_arg1) : Vec Ideal S7168x3840 .fp8e4m3) (ix2 ⟨1024 * t.val + r.val, h⟩ n) := by
  rw [← V_main_arg1 m c]
  blk_ext! [iblk, idx1 t]

end Cert.KernelIdeal.Gen.Own

namespace Cert.ReferenceIdeal.Gen

open Idealize.ShloMosaic Idealize.ShloMosaic.TcCoe Idealize.ShloMosaic.ValueKit Cert.Spec

variable (m : (ℓ : Loc nD τ sig) → Buf (Elt Ideal) ℓ)

/-- The activations as a matrix. -/
def X0 (c : Dev nD) : Vec Ideal S8x7168 .bf16 := shapeCast S8x7168 (m ((c : Thread nD τ).loc main_arg0) : Vec Ideal S8x1x7168 .bf16) shapeCasts_S8x1x7168_S8x7168

theorem V_v0 (c : Dev nD) : V m c main_v0 = X0 m c := by
  unfold V
  after_results
  rfl

theorem idx0 : ∀ t : Fin cfg0.N, win0_0.index t = ![0, 0] ∧ win0_1.index t = ![0, 0] ∧ win0_2.index t = ![0, 0] := (by decide +kernel : ∀ t : Fin grid0.N, _)

theorem iblk0_eq (c : Dev nD) (t : Fin cfg0.N) : iblk m c 0 t = X0 m c := by
  rw [← V_v0]
  blk_ext! [iblk, idx0 t]

theorem iblk1_eq (c : Dev nD) (t : Fin cfg0.N) : iblk m c 1 t = m ((c : Thread nD τ).loc main_arg1) := by
  rw [← V_main_arg1 m c]
  blk_ext! [iblk, idx0 t]

theorem iblk2_eq (c : Dev nD) (t : Fin cfg0.N) : iblk m c 2 t = m ((c : Thread nD τ).loc main_arg2) := by
  rw [← V_main_arg2 m c]
  blk_ext! [iblk, idx0 t]

end Cert.ReferenceIdeal.Gen

end
-- ==== Proof.Algebraic.lean ====
/- The kernel's three results and the reference's are the same functions of the arguments. -/
module

public import proofs.«01_k».proof.Defs
public import proofs.«01_k».proof.Proof.Blocks

@[expose] public section

noncomputable section

namespace Cert.KernelIdeal.Gen.Own

open Idealize.ShloMosaic Idealize.ShloMosaic.TcCoe Idealize.ShloMosaic.ValueKit Cert.Spec Idealize.SL.Sem

variable (m : (ℓ : Loc nD τ sig) → Buf (Elt Ideal) ℓ) (ρ : Dev nD → PrngReg)

/-- The weights and their scales, as matrices. -/
def W0 (c : Dev nD) : Vec Ideal S7168x3840 .fp8e4m3 := m ((c : Thread nD τ).loc main_arg1)
def WS0 (c : Dev nD) : Vec Ideal S56x30 .f32 := m ((c : Thread nD τ).loc main_arg2)

theorem codesV_apply (c : Dev nD) (y : S8x7168.Idx) : codesV (F := Ideal) m c y = codesOf (X0 m c) y := by
  unfold codesV
  refine (outQ5_apply _ _ _ _ _ _ _ _ _ _ _ _ _ _ _ _ _ _ _ _ _ _ _ _ _).trans ?_
  rw [iblk0_eq]
theorem scalesV_apply (c : Dev nD) (y : S8x1x56.Idx) : scalesV (F := Ideal) m c y = scalesOf (X0 m c) y := by
  unfold scalesV
  refine (outQ6_apply _ _ _ _ _ _ _ _ _ _ _ _ _ _ _ _ _ _ _ _ _ _ _ _ _).trans ?_
  rw [iblk0_eq]
theorem lhsV_eq (c : Dev nD) : lhsV (F := Ideal) m c = lhsOf (X0 m c) := by
  funext y
  unfold lhsV
  refine (outQ7_apply _ _ _ _ _ _ _ _ _ _ _ _ _ _ _ _ _ _ _ _ _ _ _ _ _).trans ?_
  rw [iblk0_eq]
theorem xsV_eq (c : Dev nD) : xsV (F := Ideal) m c = xsOf (X0 m c) := by
  funext y
  unfold xsV
  refine (outQ8_apply _ _ _ _ _ _ _ _ _ _ _ _ _ _ _ _ _ _ _ _ _ _ _ _ _).trans ?_
  rw [iblk0_eq]
theorem wsxV_eq (c : Dev nD) : wsxV (F := Ideal) m c = wsxOf (iblk m c 2 t0) := by
  funext y
  unfold wsxV
  exact outQ9_apply _ _ _ _ _ _ _ _ _ _ _ _ _ _ _ _ _ _ _ _ _ _ _ _ _
theorem zeroV_apply (c : Dev nD) (y : S8x3840.Idx) : zeroV (F := Ideal) m c y = (0 : EReal) := by
  unfold zeroV
  exact outQ10_apply _ _ _ _ _ _ _ _ _ _ _ _ _ _ _ _ _ _ _ _ _ _ _ _ _

/-- One point's accumulation, as a sum over the groups so far. -/
theorem stepV_apply (c : Dev nD) (p : Fin cfg0.N) (a : Vec Ideal S8x3840 .f32) (t : Fin 8) (n : Fin 3840)
    (ha : a (ix2 t n) = ∑ k ∈ Finset.range (8 * p.val), gnat (X0 m c) (W0 m c) (WS0 m c) t n k) :
    stepV (F := Ideal) m c p a (ix2 t n) = ∑ k ∈ Finset.range (8 * p.val + 8), gnat (X0 m c) (W0 m c) (WS0 m c) t n k := by
  have hs : (sOf (grid0.coords p)).val = p.val := crd p
  unfold stepV
  refine (outM_apply _ _ _ _ _ _ _ _ _ _ _ _ _ _ _ _ _ _ _ _ _ _ _ _ _ _ _ _).trans ?_
  rw [lhsV_eq, xsV_eq, wsxV_eq]
  have := halves_eq (X0 m c) (iblk m c 2 t0) (iblk m c 1 p) (W0 m c) (WS0 m c) (sOf (grid0.coords p))
    (fun r n => by
      refine (iblk1_eq m c p r n (by have := (sOf (grid0.coords p)).isLt; omega)).trans ?_
      refine congrArg (W0 m c) (congrArg (fun z => ix2 z n) (Fin.ext ?_))
      show 1024 * p.val + r.val = 1024 * (sOf (grid0.coords p)).val + r.val
      rw [hs]) (fun a b => iblk2_eq m c t0 a b) a t n (by rw [hs]; exact ha)
  rw [hs] at this
  exact this

theorem accV_apply (c : Dev nD) (t : Fin 8) (n : Fin 3840) : ∀ (p : ℕ) (hp : p < cfg0.N),
    accV (F := Ideal) m c p hp (ix2 t n) = ∑ k ∈ Finset.range (8 * p + 8), gnat (X0 m c) (W0 m c) (WS0 m c) t n k
  | 0, hp => stepV_apply m c ⟨0, hp⟩ _ t n (zeroV_apply m c _)
  | p + 1, hp => stepV_apply m c ⟨p + 1, hp⟩ _ t n (accV_apply c t n p (Nat.lt_of_succ_lt hp))

theorem yV_apply (c : Dev nD) (t : Fin 8) (n : Fin 3840) :
    yV (F := Ideal) m c (ix2 t n) = ∑ g : Fin 56, gterm (X0 m c) (W0 m c) (WS0 m c) t n g := by
  unfold yV
  refine (outY_apply _ _ _ _ _ _ _ _ _ _ _ _ _ _ _ _ _ _ _ _ _ _ _ _).trans ?_
  refine (accV_apply m c t n t6.val t6.isLt).trans ?_
  show ∑ k ∈ Finset.range 56, gnat (X0 m c) (W0 m c) (WS0 m c) t n k = _
  rw [Finset.sum_range]
  refine Finset.sum_congr rfl fun g _ => ?_
  unfold gnat
  rw [dif_pos g.isLt]

/-! ## The result arrays -/

theorem final3 (c : Dev nD) : (dats m 0 c).arrAt 3 cfg0.N = yV m c := by
  refine (dats m 0 c).arrAt_eq_of_after_last 3 t6 (by decide +kernel) _ fun j => ?_
  blk_simp
  rw [after0_3]
theorem final4 (c : Dev nD) : (dats m 0 c).arrAt 4 cfg0.N = codesV m c := by
  refine (dats m 0 c).arrAt_eq_of_after_last 4 t6 (by decide +kernel) _ fun j => ?_
  blk_simp
  rw [after0_4]
theorem final5 (c : Dev nD) : (dats m 0 c).arrAt 5 cfg0.N = scalesV m c := by
  refine (dats m 0 c).arrAt_eq_of_after_last 5 t6 (by decide +kernel) _ fun j => ?_
  blk_simp
  rw [after0_5]

/-- The run, its results named and its arguments unchanged. -/
theorem run_values : θ_run defs (onTc (τ := τ) (main (F := Ideal))) ⟨m, fun _ => 0, ρ⟩ fun r => ∀ c : Dev nD,
      r.2.mem ((c.tc : Thread nD τ).loc main_v2_0) = yV m c
      ∧ r.2.mem ((c.tc : Thread nD τ).loc main_v2_1) = codesV m c
      ∧ r.2.mem ((c.tc : Thread nD τ).loc main_v2_2) = scalesV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c), ((h.1 c).1 4).trans (final4 m c), ((h.1 c).1 5).trans (final5 m c), h.2 c⟩)
    (θ_run_and (run_main m ρ) (unchanged m ρ))

end Cert.KernelIdeal.Gen.Own

namespace Cert.ReferenceIdeal.Gen

open Idealize.ShloMosaic Idealize.ShloMosaic.TcCoe Idealize.ShloMosaic.ValueKit Cert.Spec

variable (m : (ℓ : Loc nD τ sig) → Buf (Elt Ideal) ℓ)

/-- The one grid point. -/
def p0 : Fin cfg0.N := ⟨0, by decide⟩

theorem final3 (c : Dev nD) : (dats m 0 c).arrAt 3 cfg0.N
    = out0_3 (X0 m c) (m ((c : Thread nD τ).loc main_arg1)) (m ((c : Thread nD τ).loc main_arg2)) := by
  refine (dats m 0 c).arrAt_eq_of_after_last 3 p0 (by decide +kernel) _ fun j => ?_
  blk_simp
  rw [after0_3, iblk0_eq, iblk1_eq, iblk2_eq]
theorem final4 (c : Dev nD) : (dats m 0 c).arrAt 4 cfg0.N
    = out0_4 (X0 m c) (m ((c : Thread nD τ).loc main_arg1)) (m ((c : Thread nD τ).loc main_arg2)) := by
  refine (dats m 0 c).arrAt_eq_of_after_last 4 p0 (by decide +kernel) _ fun j => ?_
  blk_simp
  rw [after0_4, iblk0_eq, iblk1_eq, iblk2_eq]
theorem final5 (c : Dev nD) : (dats m 0 c).arrAt 5 cfg0.N
    = out0_5 (X0 m c) (m ((c : Thread nD τ).loc main_arg1)) (m ((c : Thread nD τ).loc main_arg2)) := by
  refine (dats m 0 c).arrAt_eq_of_after_last 5 p0 (by decide +kernel) _ fun j => ?_
  blk_simp
  rw [after0_5, iblk0_eq, iblk1_eq, iblk2_eq]

end Cert.ReferenceIdeal.Gen

namespace Cert.Proof

open Idealize.ShloMosaic Idealize.ShloMosaic.TcCoe Idealize.SL.Sem Cert.Spec

/-- The two matrices of activations, the arguments agreeing. -/
theorem X0_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)) :
    ReferenceIdeal.Gen.X0 m' c = KernelIdeal.Gen.Own.X0 m c := by
  unfold ReferenceIdeal.Gen.X0
  rw [h]
  rfl

/-- At the extended reals the kernel's results and the reference's agree. -/
theorem algebraic : Cert.algebraic_KernelIdeal_ReferenceIdeal := by
  intro m g m' g' _ h
  refine ⟨fun c => KernelIdeal.Gen.Own.yV m c, fun c => KernelIdeal.Gen.Own.codesV m c, fun c => KernelIdeal.Gen.Own.scalesV m c,
    KernelIdeal.Gen.Own.run_values m g, ?_⟩
  refine (θ_run ReferenceIdeal.defs _ _).mono (fun r hr c => ?_) (ReferenceIdeal.Value.run_blocks m' g')
  obtain ⟨h0, h1, h2, hrest⟩ := hr c
  obtain ⟨a0, a1, a2⟩ := h c
  have hX := X0_eq m m' c a0
  refine ⟨h0.trans ((ReferenceIdeal.Gen.final3 m' c).trans ?_), h1.trans ((ReferenceIdeal.Gen.final4 m' c).trans ?_), h2.trans ((ReferenceIdeal.Gen.final5 m' c).trans ?_), hrest⟩
  · rw [hX, a1, a2]
    funext y
    obtain ⟨t, n, rfl⟩ : ∃ (t : Fin 8) (n : Fin 3840), y = ix2 t n := ⟨y 0, y 1, eq_ix2 y⟩
    exact (ReferenceIdeal.Gen.out3_apply _ _ _ t n).trans (KernelIdeal.Gen.Own.yV_apply m c t n).symm
  · rw [hX]
    funext y
    obtain ⟨t, n, rfl⟩ : ∃ (t : Fin 8) (n : Fin 7168), y = ix2 t n := ⟨y 0, y 1, eq_ix2 y⟩
    exact (ReferenceIdeal.Gen.out4_apply _ _ _ t n).trans (KernelIdeal.Gen.Own.codesV_apply m c (ix2 t n)).symm
  · rw [hX]
    funext y
    obtain ⟨t, z, n, rfl⟩ : ∃ (t : Fin 8) (z : Fin 1) (n : Fin 56), y = ix3 t z n := ⟨y 0, y 1, y 2, eq_ix3 y⟩
    exact (ReferenceIdeal.Gen.out5_apply _ _ _ t z n).trans (KernelIdeal.Gen.Own.scalesV_apply m c (ix3 t z n)).symm

end Cert.Proof

end
-- ==== Proof.lean ====
/- The proof of the certificate's claims, put together from the modules beside it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.OwnFrame
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims about the three programs, one by one. -/
theorem claim : Cert.Claim := ⟨Cert.Kernel.Gen.facts, Cert.KernelIdeal.Gen.facts, Cert.ReferenceIdeal.Gen.facts,
  fun m g _ => kernelFrame m g,
  fun m g _ => Cert.KernelIdeal.Gen.Own.frame m g,
  fun m g _ => Cert.ReferenceIdeal.Gen.frame m g,
  trivial, Cert.Proof.algebraic⟩

end Cert.Proof

end
